-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_and_labels [hPre_counts_and_labels : Cert.Pre_counts_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_counts_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_and_labels [hPre_counts_and_labels : Cert.Pre_counts_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_counts_and_labels [hKernelIdeal : Cert.KernelIdeal.Facts] [hPre_counts_and_labels : Cert.Pre_counts_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_and_labels [hReferenceIdeal : Cert.ReferenceIdeal.Facts] [hPre_counts_and_labels : Cert.Pre_counts_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "n3" .f32 0x4221427A#32 ((676372085 / 16777216 : ℝ) : EReal)
  ∧ IdealRules.named_const.Statement Cert.KernelIdeal.κ "n2" .f32 0x437326D2#32 ((4079407523 / 16777216 : ℝ) : EReal)
  ∧ IdealRules.named_const.Statement Cert.KernelIdeal.κ "n1" .f32 0x4422F250#32 ((5467578185 / 8388608 : ℝ) : EReal)
  ∧ IdealRules.named_const.Statement Cert.KernelIdeal.κ "n0" .f32 0x4423CB61#32 ((42937731 / 65536 : ℝ) : EReal)
  ∧ IdealRules.named_const.Statement Cert.KernelIdeal.κ "p1" .f32 0x4123CF0D#32 ((42941493 / 4194304 : ℝ) : EReal)
  ∧ IdealRules.named_const.Statement Cert.KernelIdeal.κ "ps1" .f32 0x4174055A#32 ((63968615 / 4194304 : ℝ) : EReal)
  ∧ IdealRules.named_const.Statement Cert.KernelIdeal.κ "ps0" .f32 0x41B98E18#32 ((48642143 / 2097152 : ℝ) : EReal)

def algebraic_KernelIdeal_ReferenceIdeal_pre_counts_and_labels [hKernelIdeal : Cert.KernelIdeal.Facts] [hReferenceIdeal : Cert.ReferenceIdeal.Facts] [hPre_counts_and_labels : Cert.Pre_counts_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_cst)) (v2 : (c : Dev Cert.KernelIdeal.nD) → Buf (Elt Ideal) ((c.tc : Thread Cert.KernelIdeal.nD Cert.KernelIdeal.τ).loc Cert.KernelIdeal.main_cst_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_cst) = v1 c
          ∧ r.2.mem ((c.tc : Thread Cert.KernelIdeal.nD Cert.KernelIdeal.τ).loc Cert.KernelIdeal.main_cst_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_cst_31) = v1 c
          ∧ r.2.mem ((c.tc : Thread Cert.ReferenceIdeal.nD Cert.ReferenceIdeal.τ).loc Cert.ReferenceIdeal.main_cst_32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_counts_and_labels : Cert.Pre_counts_and_labels.Facts),
    quiescent_Kernel (hKernel := hKernel)
    ∧ quiescent_KernelIdeal (hKernelIdeal := hKernelIdeal)
    ∧ quiescent_KernelIdeal_pre_counts_and_labels (hKernelIdeal := hKernelIdeal) (hPre_counts_and_labels := hPre_counts_and_labels)
    ∧ quiescent_ReferenceIdeal (hReferenceIdeal := hReferenceIdeal)
    ∧ quiescent_ReferenceIdeal_pre_counts_and_labels (hReferenceIdeal := hReferenceIdeal) (hPre_counts_and_labels := hPre_counts_and_labels)
    ∧ preserves_Kernel_KernelIdeal
    ∧ algebraic_KernelIdeal_ReferenceIdeal_pre_counts_and_labels (hKernelIdeal := hKernelIdeal) (hReferenceIdeal := hReferenceIdeal) (hPre_counts_and_labels := hPre_counts_and_labels)
-- ==== Pre_counts_and_labels.lean ====
abbrev S4096x20000 : Shape := ⟨2, ![4096, 20000]⟩
abbrev S4096x1 : Shape := ⟨2, ![4096, 1]⟩
abbrev S4096 : Shape := ⟨1, ![4096]⟩
abbrev S20000 : Shape := ⟨1, ![20000]⟩
abbrev S20000x64 : Shape := ⟨2, ![20000, 64]⟩
abbrev S_ : Shape := ⟨0, ![]⟩

class Facts : Prop where
  bcast_S_S4096x20000 : S_.BroadcastsInDim S4096x20000 (![] : Fin 0 → Fin S4096x20000.rank)
  reducesTo_S4096x20000_S_d0_1 : S4096x20000.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x20000 .f32) (main_arg1 : IVec S4096x1 32) (main_arg2 : IVec S4096 32) (main_arg3 : FVec F S20000 .f32) (main_arg4 : FVec F S20000x64 .f32) : IVec S_ 1 :=
  let main_cst : FVec F S_ .f32 := constant S_ .f32 0x00000000#32
  let main_v0 : FVec F S4096x20000 .f32 := broadcastInDim S4096x20000 ![] bcast_S_S4096x20000 main_cst
  let main_v1 : IVec S4096x20000 1 := cmpf .oge main_arg0 main_v0
  let main_c : IVec S_ 1 := constantI S_ 1 1#1
  let main_v2 : IVec S_ 1 := (fun x v => Host.reduce IntOp.andi x v reducesTo_S4096x20000_S_d0_1 h_S_) main_v1 main_c
  let main_c_0 : IVec S_ 32 := constantI S_ 32 0#32
  let main_v3 : IVec S4096x1 32 := broadcastInDim S4096x1 ![] bcast_S_S4096x1 main_c_0
  let main_v4 : IVec S4096x1 1 := cmpi .sge main_arg1 main_v3
  let main_c_1 : IVec S_ 32 := constantI S_ 32 64#32
  let main_v5 : IVec S4096x1 32 := broadcastInDim S4096x1 ![] bcast_S_S4096x1 main_c_1
  let main_v6 : IVec S4096x1 1 := cmpi .slt main_arg1 main_v5
  let main_v7 : IVec S4096x1 1 := andi main_v4 main_v6
  let main_c_2 : IVec S_ 1 := constantI S_ 1 1#1
  let main_v8 : IVec S_ 1 := (fun x v => Host.reduce IntOp.andi x v reducesTo_S4096x1_S_d0_1 h_S_) main_v7 main_c_2
  let main_v9 : IVec S_ 1 := andi main_v2 main_v8
  main_v9
-- ==== Kernel.lean ====
abbrev S4096x20000 : Shape := ⟨2, ![4096, 20000]⟩
abbrev S4096x1 : Shape := ⟨2, ![4096, 1]⟩
abbrev S4096 : Shape := ⟨1, ![4096]⟩
abbrev S20000 : Shape := ⟨1, ![20000]⟩
abbrev S20000x64 : Shape := ⟨2, ![20000, 64]⟩
abbrev S64x1x64 : Shape := ⟨3, ![64, 1, 64]⟩
abbrev S1x20000 : Shape := ⟨2, ![1, 20000]⟩
abbrev S64x20000 : Shape := ⟨2, ![64, 20000]⟩
abbrev S1x1x64 : Shape := ⟨3, ![1, 1, 64]⟩
abbrev S2x64x20000 : Shape := ⟨3, ![2, 64, 20000]⟩
abbrev S192x20000 : Shape := ⟨2, ![192, 20000]⟩
abbrev S1x1 : Shape := ⟨2, ![1, 1]⟩
abbrev S2 : Shape := ⟨1, ![2]⟩
abbrev S1 : Shape := ⟨1, ![1]⟩
abbrev S_ : Shape := ⟨0, ![]⟩
abbrev S1x64x20000 : Shape := ⟨3, ![1, 64, 20000]⟩
abbrev S1x1x20000 : Shape := ⟨3, ![1, 1, 20000]⟩
abbrev S1x1x1 : Shape := ⟨3, ![1, 1, 1]⟩
abbrev S64 : Shape := ⟨1, ![64]⟩
abbrev S64x192 : Shape := ⟨2, ![64, 192]⟩
abbrev S64x1 : Shape := ⟨2, ![64, 1]⟩

abbrev nBuf : Space → Nat
  | .hbm => 12
  | .vmem => 9
  | .smem => 1
  | _ => 0

abbrev bufTy : (tb : Table) → Fin (tcTables nBuf tb) → BufTy
  | .hbm, ⟨0, _⟩ => ⟨S4096x20000, .f32⟩
  | .hbm, ⟨1, _⟩ => ⟨S4096x1, .i32⟩
  | .hbm, ⟨2, _⟩ => ⟨S4096, .i32⟩
  | .hbm, ⟨3, _⟩ => ⟨S20000, .f32⟩
  | .hbm, ⟨4, _⟩ => ⟨S20000x64, .f32⟩
  | .hbm, ⟨5, _⟩ => ⟨S64x1x64, .i32⟩
  | .hbm, ⟨6, _⟩ => ⟨S1x20000, .f32⟩
  | .hbm, ⟨7, _⟩ => ⟨S64x20000, .f32⟩
  | .hbm, ⟨8, _⟩ => ⟨S64x1x64, .f32⟩
  | .hbm, ⟨9, _⟩ => ⟨S4096, .f32⟩
  | .hbm, ⟨10, _⟩ => ⟨S_, .f32⟩
  | .hbm, ⟨11, _⟩ => ⟨S_, .f32⟩
  | .local _ .vmem, ⟨0, _⟩ => ⟨S1x1x64, .i32⟩
  | .local _ .vmem, ⟨1, _⟩ => ⟨S1x1x64, .i32⟩
  | .local _ .vmem, ⟨2, _⟩ => ⟨S1x20000, .f32⟩
  | .local _ .vmem, ⟨3, _⟩ => ⟨S64x20000, .f32⟩
  | .local _ .vmem, ⟨4, _⟩ => ⟨S1x1x64, .f32⟩
  | .local _ .vmem, ⟨5, _⟩ => ⟨S1x1x64, .f32⟩
  | .local _ .vmem, ⟨6, _⟩ => ⟨S2x64x20000, .f32⟩
  | .local _ .vmem, ⟨7, _⟩ => ⟨S192x20000, .bf16⟩
  | .local _ .vmem, ⟨8, _⟩ => ⟨S1x20000, .f32⟩
  | .local _ .smem, ⟨0, _⟩ => ⟨S1x1, .f32⟩
  | _, _ => ⟨S4096x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_v0 : Ref sig .tc := ⟨.hbm, 9, rfl⟩
abbrev main_cst : Ref sig .tc := ⟨.hbm, 10, rfl⟩
abbrev main_cst_0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c64_i32 : BitVec 32 := 64#32
  let v4 : BitVec 1 := Scalar.cmpi .slt v3 c64_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_56 : BitVec 32 := 1#32
  let v141 : BitVec 32 := Scalar.addi arg0 c1_i32_56
  let c2_i32_57 : BitVec 32 := 2#32
  let c0_i32_58 : BitVec 32 := 0#32
  let v142 : BitVec 1 := Scalar.cmpi .eq c2_i32_57 c0_i32_58
  let c1_i32_59 : BitVec 32 := 1#32
  let v143 : BitVec 32 := Scalar.select v142 c1_i32_59 c2_i32_57
  let v144 : BitVec 32 := Scalar.remsi v141 v143
  let c0_i32_61 : BitVec 32 := 0#32
  let v146 : BitVec 1 := Scalar.cmpi .slt v144 c0_i32_61
  let c0_i32_62 : BitVec 32 := 0#32
  let v147 : BitVec 1 := Scalar.cmpi .slt v143 c0_i32_62
  let v148 : BitVec 1 := Scalar.xori v146 v147
  let c0_i32_60 : BitVec 32 := 0#32
  let v145 : BitVec 1 := Scalar.cmpi .ne v144 c0_i32_60
  let v149 : BitVec 1 := Scalar.andi v148 v145
  let v150 : BitVec 32 := Scalar.addi v144 v143
  let v151 : BitVec 32 := Scalar.select v149 v150 v144
  ![v151.toNat]
def k0_off2 (i : grid0.Coords) : Fin 3 → Nat :=
  let arg0 : BitVec 32 := BitVec.ofNat 32 (i 0).val
  let c1_i32_56 : BitVec 32 := 1#32
  let v141 : BitVec 32 := Scalar.addi arg0 c1_i32_56
  let c2_i32_57 : BitVec 32 := 2#32
  let c0_i32_58 : BitVec 32 := 0#32
  let v142 : BitVec 1 := Scalar.cmpi .eq c2_i32_57 c0_i32_58
  let c1_i32_59 : BitVec 32 := 1#32
  let v143 : BitVec 32 := Scalar.select v142 c1_i32_59 c2_i32_57
  let v144 : BitVec 32 := Scalar.remsi v141 v143
  let c0_i32_61 : BitVec 32 := 0#32
  let v146 : BitVec 1 := Scalar.cmpi .slt v144 c0_i32_61
  let c0_i32_62 : BitVec 32 := 0#32
  let v147 : BitVec 1 := Scalar.cmpi .slt v143 c0_i32_62
  let v148 : BitVec 1 := Scalar.xori v146 v147
  let c0_i32_60 : BitVec 32 := 0#32
  let v145 : BitVec 1 := Scalar.cmpi .ne v144 c0_i32_60
  let v149 : BitVec 1 := Scalar.andi v148 v145
  let v150 : BitVec 32 := Scalar.addi v144 v143
  let v151 : BitVec 32 := Scalar.select v149 v150 v144
  let c0_i32_64 : BitVec 32 := 0#32
  let c0_i32_65 : BitVec 32 := 0#32
  ![v151.toNat, 0, 0]
def k0_off3 (i : grid0.Coords) : Fin 2 → Nat :=
  let arg0 : BitVec 32 := BitVec.ofNat 32 (i 0).val
  let c1_i32_55 : BitVec 32 := 1#32
  let v140 : BitVec 32 := Scalar.addi arg0 c1_i32_55
  let c64_i32_63 : BitVec 32 := 64#32
  let v152 : BitVec 32 := Scalar.muli v140 c64_i32_63
  let c0_i32_66 : BitVec 32 := 0#32
  ![v152.toNat, 0]
def k0_off4 (i : grid0.Coords) : Fin 1 → Nat :=
  let arg0 : BitVec 32 := BitVec.ofNat 32 (i 0).val
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  ![v19.toNat]
def k0_off5 (i : grid0.Coords) : Fin 3 → Nat :=
  let arg0 : BitVec 32 := BitVec.ofNat 32 (i 0).val
  let c2_i32 : BitVec 32 := 2#32
  let c0_i32_4 : BitVec 32 := 0#32
  let v10 : BitVec 1 := Scalar.cmpi .eq c2_i32 c0_i32_4
  let c1_i32_5 : BitVec 32 := 1#32
  let v11 : BitVec 32 := Scalar.select v10 c1_i32_5 c2_i32
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let c0_i32_10 : BitVec 32 := 0#32
  let c0_i32_11 : BitVec 32 := 0#32
  ![v19.toNat, 0, 0]
def k0_off6 (i : grid0.Coords) : Fin 2 → Nat :=
  let arg0 : BitVec 32 := BitVec.ofNat 32 (i 0).val
  let c64_i32_9 : BitVec 32 := 64#32
  let v20 : BitVec 32 := Scalar.muli arg0 c64_i32_9
  let c0_i32_12 : BitVec 32 := 0#32
  ![v20.toNat, 0]
def k0_off7 (i : grid0.Coords) : Fin 3 → Nat :=
  let arg0 : BitVec 32 := BitVec.ofNat 32 (i 0).val
  let c2_i32_13 : BitVec 32 := 2#32
  let c0_i32_14 : BitVec 32 := 0#32
  let v26 : BitVec 1 := Scalar.cmpi .eq c2_i32_13 c0_i32_14
  let c1_i32_15 : BitVec 32 := 1#32
  let v27 : BitVec 32 := Scalar.select v26 c1_i32_15 c2_i32_13
  let v28 : BitVec 32 := Scalar.remsi arg0 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let v36 : Index := Scalar.indexCast v35
  let c0 : Index := 0#32
  let c0_19 : Index := 0#32
  ![v36.toNat, 0, 0]
def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x20000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x20000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "n0" => some ((42937731 / 65536 : ℝ) : EReal)
  | "n1" => some ((5467578185 / 8388608 : ℝ) : EReal)
  | "n2" => some ((4079407523 / 16777216 : ℝ) : EReal)
  | "n3" => some ((676372085 / 16777216 : ℝ) : EReal)
  | "p1" => some ((42941493 / 4194304 : ℝ) : EReal)
  | "ps0" => some ((48642143 / 2097152 : ℝ) : EReal)
  | "ps1" => some ((63968615 / 4194304 : ℝ) : EReal)
  | _ => none
-- ==== ReferenceIdeal.lean ====
abbrev S4096x20000 : Shape := ⟨2, ![4096, 20000]⟩
abbrev S4096x1 : Shape := ⟨2, ![4096, 1]⟩
abbrev S4096 : Shape := ⟨1, ![4096]⟩
abbrev S20000 : Shape := ⟨1, ![20000]⟩
abbrev S20000x64 : Shape := ⟨2, ![20000, 64]⟩
abbrev S_ : Shape := ⟨0, ![]⟩
abbrev S20000x4096 : Shape := ⟨2, ![20000, 4096]⟩
abbrev S1x20000 : Shape := ⟨2, ![1, 20000]⟩

abbrev nBuf : Space → Nat
  | .hbm => 167
  | .vmem => 0
  | .smem => 0
  | _ => 0

abbrev hbmTy0_0 (i : Nat) : BufTy := match i % 128 with
  | 0 => ⟨S4096x20000, .f32⟩
  | 1 => ⟨S4096x1, .i32⟩
  | 2 => ⟨S4096, .i32⟩
  | 3 => ⟨S20000, .f32⟩
  | 4 => ⟨S20000x64, .f32⟩
  | 5 => ⟨S20000, .f32⟩
  | 6 => ⟨S_, .f32⟩
  | 7 => ⟨S20000x64, .f32⟩
  | 8 => ⟨S20000x64, .f32⟩
  | 9 => ⟨S20000x64, .f32⟩
  | 10 => ⟨S20000x64, .f32⟩
  | 11 => ⟨S20000x64, .i1⟩
  | 12 => ⟨S20000x64, .f32⟩
  | 13 => ⟨S20000x64, .f32⟩
  | 14 => ⟨S20000x64, .f32⟩
  | 15 => ⟨S20000x64, .f32⟩
  | 16 => ⟨S20000x64, .f32⟩
  | 17 => ⟨S20000x64, .f32⟩
  | 18 => ⟨S20000x64, .f32⟩
  | 19 => ⟨S20000x64, .f32⟩
  | 20 => ⟨S4096, .i32⟩
  | 21 => ⟨S_, .i32⟩
  | 22 => ⟨S4096, .i32⟩
  | 23 => ⟨S4096, .i1⟩
  | 24 => ⟨S_, .i32⟩
  | 25 => ⟨S4096, .i32⟩
  | 26 => ⟨S4096, .i32⟩
  | 27 => ⟨S4096, .i32⟩
  | 28 => ⟨S4096x1, .i32⟩
  | 29 => ⟨S20000x4096, .f32⟩
  | 30 => ⟨S4096x20000, .f32⟩
  | 31 => ⟨S_, .f32⟩
  | 32 => ⟨S4096, .f32⟩
  | 33 => ⟨S4096x1, .f32⟩
  | 34 => ⟨S4096x20000, .f32⟩
  | 35 => ⟨S4096x20000, .f32⟩
  | 36 => ⟨S1x20000, .f32⟩
  | 37 => ⟨S4096x20000, .f32⟩
  | 38 => ⟨S4096x20000, .f32⟩
  | 39 => ⟨S_, .f32⟩
  | 40 => ⟨S4096x20000, .f32⟩
  | 41 => ⟨S4096x20000, .f32⟩
  | 42 => ⟨S4096x20000, .f32⟩
  | 43 => ⟨S_, .f32⟩
  | 44 => ⟨S1x20000, .f32⟩
  | 45 => ⟨S1x20000, .f32⟩
  | 46 => ⟨S1x20000, .f32⟩
  | 47 => ⟨S4096x20000, .f32⟩
  | 48 => ⟨S4096x20000, .f32⟩
  | 49 => ⟨S4096x20000, .f32⟩
  | 50 => ⟨S4096x20000, .f32⟩
  | 51 => ⟨S_, .f32⟩
  | 52 => ⟨S4096x20000, .f32⟩
  | 53 => ⟨S4096x20000, .f32⟩
  | 54 => ⟨S4096x20000, .f32⟩
  | 55 => ⟨S4096x20000, .f32⟩
  | 56 => ⟨S4096x20000, .f32⟩
  | 57 => ⟨S4096x20000, .f32⟩
  | 58 => ⟨S4096x20000, .f32⟩
  | 59 => ⟨S4096x20000, .f32⟩
  | 60 => ⟨S_, .f32⟩
  | 61 => ⟨S4096x20000, .f32⟩
  | 62 => ⟨S4096x20000, .f32⟩
  | 63 => ⟨S_, .f32⟩
  | 64 => ⟨S4096x20000, .f32⟩
  | 65 => ⟨S4096x20000, .f32⟩
  | 66 => ⟨S_, .f32⟩
  | 67 => ⟨S4096x20000, .f32⟩
  | 68 => ⟨S4096x20000, .f32⟩
  | 69 => ⟨S_, .f32⟩
  | 70 => ⟨S4096x20000, .f32⟩
  | 71 => ⟨S4096x20000, .f32⟩
  | 72 => ⟨S_, .f32⟩
  | 73 => ⟨S4096x20000, .f32⟩
  | 74 => ⟨S4096x20000, .f32⟩
  | 75 => ⟨S4096x20000, .f32⟩
  | 76 => ⟨S_, .f32⟩
  | 77 => ⟨S4096x20000, .f32⟩
  | 78 => ⟨S4096x20000, .f32⟩
  | 79 => ⟨S_, .f32⟩
  | 80 => ⟨S4096x20000, .f32⟩
  | 81 => ⟨S4096x20000, .f32⟩
  | 82 => ⟨S4096x20000, .f32⟩
  | 83 => ⟨S4096x20000, .f32⟩
  | 84 => ⟨S4096x20000, .f32⟩
  | 85 => ⟨S4096x20000, .f32⟩
  | 86 => ⟨S4096x20000, .f32⟩
  | 87 => ⟨S4096x20000, .f32⟩
  | 88 => ⟨S_, .f32⟩
  | 89 => ⟨S1x20000, .f32⟩
  | 90 => ⟨S1x20000, .f32⟩
  | 91 => ⟨S_, .f32⟩
  | 92 => ⟨S1x20000, .f32⟩
  | 93 => ⟨S1x20000, .f32⟩
  | 94 => ⟨S_, .f32⟩
  | 95 => ⟨S1x20000, .f32⟩
  | 96 => ⟨S1x20000, .f32⟩
  | 97 => ⟨S_, .f32⟩
  | 98 => ⟨S1x20000, .f32⟩
  | 99 => ⟨S1x20000, .f32⟩
  | 100 => ⟨S_, .f32⟩
  | 101 => ⟨S1x20000, .f32⟩
  | 102 => ⟨S1x20000, .f32⟩
  | 103 => ⟨S1x20000, .f32⟩
  | 104 => ⟨S_, .f32⟩
  | 105 => ⟨S1x20000, .f32⟩
  | 106 => ⟨S1x20000, .f32⟩
  | 107 => ⟨S_, .f32⟩
  | 108 => ⟨S1x20000, .f32⟩
  | 109 => ⟨S1x20000, .f32⟩
  | 110 => ⟨S1x20000, .f32⟩
  | 111 => ⟨S_, .f32⟩
  | 112 => ⟨S1x20000, .f32⟩
  | 113 => ⟨S1x20000, .f32⟩
  | 114 => ⟨S_, .f32⟩
  | 115 => ⟨S1x20000, .f32⟩
  | 116 => ⟨S1x20000, .f32⟩
  | 117 => ⟨S1x20000, .f32⟩
  | 118 => ⟨S_, .f32⟩
  | 119 => ⟨S1x20000, .f32⟩
  | 120 => ⟨S1x20000, .f32⟩
  | 121 => ⟨S_, .f32⟩
  | 122 => ⟨S1x20000, .f32⟩
  | 123 => ⟨S1x20000, .f32⟩
  | 124 => ⟨S1x20000, .f32⟩
  | 125 => ⟨S1x20000, .f32⟩
  | 126 => ⟨S1x20000, .f32⟩
  | 127 => ⟨S1x20000, .f32⟩
  | _ => ⟨S4096x20000, .f32⟩

abbrev hbmTy0_1 (i : Nat) : BufTy := match i % 128 with
  | 0 => ⟨S1x20000, .f32⟩
  | 1 => ⟨S4096x20000, .f32⟩
  | 2 => ⟨S4096x20000, .f32⟩
  | 3 => ⟨S_, .f32⟩
  | 4 => ⟨S4096x20000, .f32⟩
  | 5 => ⟨S4096x20000, .f32⟩
  | 6 => ⟨S_, .f32⟩
  | 7 => ⟨S4096x20000, .f32⟩
  | 8 => ⟨S4096x20000, .f32⟩
  | 9 => ⟨S_, .f32⟩
  | 10 => ⟨S4096x20000, .f32⟩
  | 11 => ⟨S4096x20000, .f32⟩
  | 12 => ⟨S_, .f32⟩
  | 13 => ⟨S4096x20000, .f32⟩
  | 14 => ⟨S4096x20000, .f32⟩
  | 15 => ⟨S_, .f32⟩
  | 16 => ⟨S4096x20000, .f32⟩
  | 17 => ⟨S4096x20000, .f32⟩
  | 18 => ⟨S_, .f32⟩
  | 19 => ⟨S4096x20000, .f32⟩
  | 20 => ⟨S4096x20000, .f32⟩
  | 21 => ⟨S4096x20000, .f32⟩
  | 22 => ⟨S_, .f32⟩
  | 23 => ⟨S4096x20000, .f32⟩
  | 24 => ⟨S4096x20000, .f32⟩
  | 25 => ⟨S_, .f32⟩
  | 26 => ⟨S4096x20000, .f32⟩
  | 27 => ⟨S4096x20000, .f32⟩
  | 28 => ⟨S4096x20000, .f32⟩
  | 29 => ⟨S4096x20000, .f32⟩
  | 30 => ⟨S4096x20000, .f32⟩
  | 31 => ⟨S4096x20000, .f32⟩
  | 32 => ⟨S4096x20000, .f32⟩
  | 33 => ⟨S4096x20000, .f32⟩
  | 34 => ⟨S_, .f32⟩
  | 35 => ⟨S4096, .f32⟩
  | 36 => ⟨S4096, .f32⟩
  | 37 => ⟨S_, .f32⟩
  | 38 => ⟨S_, .f32⟩
  | _ => ⟨S4096x20000, .f32⟩

abbrev hbmTy (i : Nat) : BufTy := match i / 128 with
  | 0 => hbmTy0_0 i
  | 1 => hbmTy0_1 i
  | _ => ⟨S4096x20000, .f32⟩

abbrev bufTy : (tb : Table) → Fin (tcTables nBuf tb) → BufTy
  | .hbm, ⟨i, _⟩ => hbmTy i
  | _, _ => ⟨S4096x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v1 : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_c_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_cst_5 : Ref sig .tc := ⟨.hbm, 63, rfl⟩
abbrev main_v38 : Ref sig .tc := ⟨.hbm, 64, rfl⟩
abbrev main_v39 : Ref sig .tc := ⟨.hbm, 65, rfl⟩
abbrev main_cst_6 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_9 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_cst_12 : Ref sig .tc := ⟨.hbm, 91, rfl⟩
abbrev main_v59 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_v68 : Ref sig .tc := ⟨.hbm, 105, rfl⟩
abbrev main_v69 : Ref sig .tc := ⟨.hbm, 106, rfl⟩
abbrev main_cst_17 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_cst_18 : Ref sig .tc := ⟨.hbm, 111, rfl⟩
abbrev main_v73 : Ref sig .tc := ⟨.hbm, 112, rfl⟩
abbrev main_v74 : Ref sig .tc := ⟨.hbm, 113, rfl⟩
abbrev main_cst_19 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_20 : Ref sig .tc := ⟨.hbm, 118, rfl⟩
abbrev main_v78 : Ref sig .tc := ⟨.hbm, 119, rfl⟩
abbrev main_v79 : Ref sig .tc := ⟨.hbm, 120, rfl⟩
abbrev main_cst_21 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_cst_22 : Ref sig .tc := ⟨.hbm, 131, rfl⟩
abbrev main_v89 : Ref sig .tc := ⟨.hbm, 132, rfl⟩
abbrev main_v90 : Ref sig .tc := ⟨.hbm, 133, rfl⟩
abbrev main_cst_23 : Ref sig .tc := ⟨.hbm, 134, rfl⟩
abbrev main_v91 : Ref sig .tc := ⟨.hbm, 135, rfl⟩
abbrev main_v92 : Ref sig .tc := ⟨.hbm, 136, rfl⟩
abbrev main_cst_24 : Ref sig .tc := ⟨.hbm, 137, rfl⟩
abbrev main_v93 : Ref sig .tc := ⟨.hbm, 138, rfl⟩
abbrev main_v94 : Ref sig .tc := ⟨.hbm, 139, rfl⟩
abbrev main_cst_25 : Ref sig .tc := ⟨.hbm, 140, rfl⟩
abbrev main_v95 : Ref sig .tc := ⟨.hbm, 141, rfl⟩
abbrev main_v96 : Ref sig .tc := ⟨.hbm, 142, rfl⟩
abbrev main_cst_26 : Ref sig .tc := ⟨.hbm, 143, rfl⟩
abbrev main_v97 : Ref sig .tc := ⟨.hbm, 144, rfl⟩
abbrev main_v98 : Ref sig .tc := ⟨.hbm, 145, rfl⟩
abbrev main_cst_27 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_28 : Ref sig .tc := ⟨.hbm, 150, rfl⟩
abbrev main_v102 : Ref sig .tc := ⟨.hbm, 151, rfl⟩
abbrev main_v103 : Ref sig .tc := ⟨.hbm, 152, rfl⟩
abbrev main_cst_29 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_30 : Ref sig .tc := ⟨.hbm, 162, rfl⟩
abbrev main_v112 : Ref sig .tc := ⟨.hbm, 163, rfl⟩
abbrev main_v113 : Ref sig .tc := ⟨.hbm, 164, rfl⟩
abbrev main_cst_31 : Ref sig .tc := ⟨.hbm, 165, rfl⟩
abbrev main_cst_32 : Ref sig .tc := ⟨.hbm, 166, rfl⟩

abbrev nD : Nat := 1
abbrev τ : Topo := Topo.v7x

variable {F : FTy → Type} [FloatOps F]
-- ==== Proof.Runs.lean ====
/- What the runs of the kernel's body at its three kinds of grid points share: the host operations around the
   pipelined region, each window's block at a point, the body's branch conditions over the points, the staging and
   scratch memrefs, and the two-slot ring through which the blocks of `x` stream. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- deciding that an index lies in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
/-- @main around the region, at any variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1, hostOps1_1].map StableHlo.seq)) :=
  Pipeline.hmain_around cfgs 0 defs₀ 𝒱₀ m main [hostOps0] [hostOps1, hostOps1_1] (by simp only [List.Forall]; exact hostOps0_sub)
    (by simp only [List.Forall]; exact hostOps0_fresh) main_chain

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop
/-- And write no array of the pipeline (each writes only its own result buffer, which is no array). -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The arguments are none of the buffers that the host operations write, and no array of the pipeline but for a window's own
    copy of them. -/
theorem arg_ne : ∀ b ∈ ([main_arg0, main_arg1, main_arg2, main_arg3, main_arg4] : List (Ref sig .tc)),
    (b ≠ main_call0_v0 ∧ b ≠ main_call0_v1 ∧ b ≠ main_call0_v2) ∧ (b ≠ main_v0 ∧ b ≠ main_cst ∧ b ≠ main_cst_0)
      ∧ ∀ w, Pipeline.arrRef spec0 w ≠ b := by decide

/-- No host operation before the region writes an argument: the region finds it as launched. -/
theorem V_arg {b : Ref sig .tc} (hb : b ∈ ([main_arg0, main_arg1, main_arg2, main_arg3, main_arg4] : List (Ref sig .tc))) (c : Dev nD) :
    V m c b = m ((c : Thread nD τ).loc b) :=
  StableHlo.after_of_forall_not_mem (b := Proc.devRef .tc b) _ _ (List.forall_iff_forall_mem.mp (by
    obtain ⟨⟨h0, h1, h2⟩, -⟩ := arg_ne b hb
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2⟩))

/-- No host operation after the region writes an argument: it ends as launched. -/
theorem W_arg (dats : (p : Fin _) → (c : Dev nD) → Dat τ (Elt F) Unit ℕ (Pipeline.UD sig nD τ) ℕ (cfgs p) c) {b : Ref sig .tc}
    (hb : b ∈ ([main_arg0, main_arg1, main_arg2, main_arg3, main_arg4] : List (Ref sig .tc))) (c : Dev nD) :
    Pipeline.afterTail₀ cfgs dats 0 (V0 m) [hostOps1, hostOps1_1] c b = m ((c : Thread nD τ).loc b) := by
  obtain ⟨-, ⟨h0, h1, h2⟩, h3⟩ := arg_ne b hb
  unfold Pipeline.afterTail₀
  rw [StableHlo.after_of_forall_not_mem (b := Proc.devRef .tc b) _ _ (List.forall_iff_forall_mem.mp (by
      simp only [hostOps1, hostOps1_1, List.flatten_cons, List.flatten_nil, List.append_nil, List.cons_append,
        List.nil_append, List.Forall, StableHlo.nullary_writes, StableHlo.reshape_writes, Finset.mem_singleton]
      exact ⟨StableHlo.devRef_ne_of_ne h0, StableHlo.devRef_ne_of_ne h1, StableHlo.devRef_ne_of_ne h2⟩)),
    Pipeline.withArrays_of_ne _ c (V0 m c) _ b h3]
  exact V_arg m hb c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-- The condition of the body's `scf.if` 1 (`k0_h2`), from the grid coordinates (the skeleton's scalar
    chain substituted). -/
abbrev cond0_1 (i : grid0.Coords) : Prop := k0_cond2 i = 1#1
/-- It holds at the points before point 63 — decided over the grid. -/
theorem hcond0_1 : ∀ t : Fin cfg0.N, cond0_1 (grid0.coords t) ↔ t.val < 63 :=
  (by decide +kernel : ∀ t : Fin grid0.N, cond0_1 (grid0.coords t) ↔ t.val < 63)

/-- The condition of the body's `scf.if` 2 (`k0_h3`), from the grid coordinates (the skeleton's scalar
    chain substituted). -/
abbrev cond0_2 (i : grid0.Coords) : Prop := (Scalar.cmpi .ne (Scalar.extui (Scalar.cmpi .eq (BitVec.ofNat 32 (i 0).val) 0#32)) 0#32) = 1#1
/-- It holds at the first point only — by arithmetic of the point. -/
theorem hcond0_2 : ∀ t : Fin cfg0.N, cond0_2 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_2, e0]
    word_cmp
   : ∀ t : Fin grid0.N, cond0_2 (grid0.coords t) ↔ t.val % 64 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x1x64 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x20000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x20000 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x64 .f32 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S2x64x20000 .f32 := Memref.whole cc0_scratch0
abbrev scM0_1 : Memref sig .tc .vmem S192x20000 .bf16 := Memref.whole cc0_scratch1
abbrev scM0_2 : Memref sig .tc .vmem S1x20000 .f32 := Memref.whole cc0_scratch2
abbrev scM0_3 : Memref sig .tc .smem S1x1 .f32 := Memref.whole cc0_scratch3
/-- The operands left in HBM that the body copies into scratch itself, whole. -/
abbrev hbM0_0 : Memref sig .tc .hbm S4096x20000 .f32 := Memref.whole main_arg0
/-- Memref `M`'s buffer on core `c`: its contents type, and it held whole at `f` — behind this abbreviation, so that the
    run's rewriting of the goal leaves `Memref.view` intact (the form in which a held buffer is read). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 6, SemLoc.dma 7] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
/-- The HBM operands the body moves, as references: unscoped, no window's array (`Pipeline.restRefs`). -/
def H0 : Finset (Ref sig .tc) := {main_arg0}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1, hostOps1_1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl | rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefsBut Pipeline.Prefetch.none spec0 H0 op ((List.forall_iff_forall_mem.mp hostOps1_1_sub) op hop) (fun j => j.elim0) ?_
    simp only [hostOps1_1, List.mem_cons, List.mem_nil_iff, or_false] at hop
    rcases hop with rfl | rfl
    all_goals intro b hb; simp only [H0, Finset.mem_insert, Finset.mem_singleton] at hb
    all_goals rcases hb with rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0)) := by
  rw [BI.bigSep_eq_bigSepL_of_eq [main_arg0] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 6) 0 ∗ semVal ((c : Thread nD τ), SemLoc.dma 7) 0) ∗ iprop(hbPt0 c hbM0_0 (V m c main_arg0))) := by
  rw [Pipeline.ΦD_eq, scopedRest0_eq, ownSems00_eq, hbmPts0_eq]; simp only [scM0_0, scM0_1, scM0_2, scM0_3, owns_whole]; try rfl

/-! ## Ring 0 of kernel 0: `main_arg0` streamed through the 2 slots of `cc0_scratch0` on the cells of `cc0_scratch4`, 1 block ahead, in 64 steps -/

instance : NeZero grid0.N := ⟨by rw [N_0]; decide⟩
theorem inb_slot0_0 (s : Fin 2) : ∀ a, (![s.val, 0, 0] : Fin 3 → Nat) a + S1x64x20000.size a ≤ S2x64x20000.size a := by
  have := s.isLt; intro a; fin_cases a <;> simp <;> omega
theorem inb_src0_0 (b : Fin 64) : ∀ a, (![64 * b.val, 0] : Fin 2 → Nat) a + S64x20000.size a ≤ S4096x20000.size a := by
  have := b.isLt; intro a; fin_cases a <;> simp <;> omega
theorem inb_cell0_0 (s : Fin 2) : ∀ a, (![s.val] : Fin 1 → Nat) a + S1.size a ≤ S2.size a := by
  have := s.isLt; intro a; fin_cases a <;> simp <;> omega
/-- Slot `s` of the ring, spelt as the body's transfers spell their destination, at offsets in `s`. -/
def rslot0_0 (s : Fin 2) : Memref sig .tc .vmem S64x20000 .f32 :=
  (scM0_0.slice (Rect.unit (s := S2x64x20000) ![s.val, 0, 0] S1x64x20000.size (inb_slot0_0 s)) (fun _ => rfl)).squeeze S64x20000 squeezes_S1x64x20000_S64x20000
/-- Block `b` of the operand (the block step `b` waits), spelt as the transfers spell their source, at offsets in `b`. -/
def srcB0_0 (b : Fin 64) : Memref sig .tc .hbm S64x20000 .f32 :=
  hbM0_0.slice (Rect.unit (s := S4096x20000) ![64 * b.val, 0] S64x20000.size (inb_src0_0 b)) (fun _ => rfl)
/-- Cell `s` of `cc0_scratch4`, spelt as the body spells a cell; its number in the pool. -/
def cellA0_0 (s : Fin 2) : DmaSems sig S_ := (cc0_scratch4.slice (Rect.unit (s := S2) ![s.val] S1.size (inb_cell0_0 s))).squeeze S_ squeezes_S1_S_
abbrev cellR0_0 (s : Fin 2) : SemLoc sig := SemLoc.dma (cellA0_0 s).sem
theorem cellR0_0_0 : cellR0_0 0 = SemLoc.dma 6 := by decide
theorem cellR0_0_1 : cellR0_0 1 = SemLoc.dma 7 := by decide

section Ring0_0
variable (c : Dev nD) (W : HbBuf0 (F := F) c hbM0_0)
/-- The operand is lent BY SHARE, one read-share copy of it per slot (the left and right halves of the full share): whatever
    blocks two transfers in flight stream — the same one twice, two that overlap —, each borrows from its own slot's copy. -/
abbrev qs0_0 (s : Fin 2) : PosShare TreeShare := if s.val = 0 then fullShare.left else fullShare.right
/-- The families the ring is stated over: slot `s` held at `f`; cell `s` at zero; block `b`'s elements of slot `s`'s copy of the
    operand (what a transfer into slot `s` lends), the REST of that copy, and the copy whole; slot `s`'s contents once block `b`
    landed in it whole over `f`; the FLIGHT of block `b` into slot `s`, delivering the slot landed
    and the lent elements back. -/
abbrev slotP0_0 (s : Fin 2) (f : HbBuf0 (F := F) c (rslot0_0 s)) : sProp 𝕄 := (rslot0_0 s).view.loc (c : Thread nD τ) ↦[(rslot0_0 s).view.set]{fullShare} f
abbrev cellP0_0 (s : Fin 2) : sProp 𝕄 := semVal ((c : Thread nD τ), cellR0_0 s) 0
abbrev srcP0_0 (s : Fin 2) (b : Fin 64) : sProp 𝕄 := (srcB0_0 b).view.loc (c : Thread nD τ) ↦[(srcB0_0 b).view.set]{qs0_0 s} W
/-- (a `def`, which stays folded: no run reads this rest) -/
def restP0_0 (s : Fin 2) (b : Fin 64) : sProp 𝕄 := ((c : Thread nD τ).loc main_arg0) ↦[Finset.univ \ (srcB0_0 b).view.set]{qs0_0 s} W
abbrev wholeP0_0 (s : Fin 2) : sProp 𝕄 := ((c : Thread nD τ).loc main_arg0) ↦[Finset.univ]{qs0_0 s} W
abbrev landed0_0 (s : Fin 2) (b : Fin 64) (f : HbBuf0 (F := F) c (rslot0_0 s)) : HbBuf0 (F := F) c (rslot0_0 s) :=
  (rslot0_0 s).view.writes (Elt F) f [⟨Rect.whole S64x20000, ReadAs.same.apply ((srcB0_0 b).view.read (Elt F) W)⟩]
abbrev flightP0_0 (s : Fin 2) (b : Fin 64) (f : HbBuf0 (F := F) c (rslot0_0 s)) : sProp 𝕄 :=
  Transfers.Flight countersEmb (c : Thread nD τ) (cellR0_0 s) default ((rslot0_0 s).view.amount (cellR0_0 s))
    iprop(slotP0_0 c s (landed0_0 c W s b f) ∗ srcP0_0 c W s b)
/-- Lib/Ring.lean's `slot` and `flight` families: a slot not in flight carries its copy of the operand whole; a flight, the
    rest of the copy it borrowed from. No block is held apart: the `home` family is `emp`. -/
abbrev slotW0_0 (s : Fin 2) (f : HbBuf0 (F := F) c (rslot0_0 s)) : sProp 𝕄 := iprop(slotP0_0 c s f ∗ wholeP0_0 c W s)
abbrev flightW0_0 (s : Fin 2) (b : Fin 64) (f : HbBuf0 (F := F) c (rslot0_0 s)) : sProp 𝕄 := iprop(flightP0_0 c W s b f ∗ restP0_0 c W s b)
abbrev noHome0_0 (b : Fin 64) : sProp 𝕄 := iprop(emp)
/-- The ring before its step `k` (Lib/Ring.lean `AtK`): every slot free before the first; from then on block `k` in flight
    into slot `k`, slot `k + 1` KEEPING block `k - 1` (landed, readable) until the step starts block `k + 1` over it. -/
def ringAt0_0 (k : ℕ) : sProp 𝕄 :=
  if k = 0 then Ring.At₀ (cellP0_0 c) (slotW0_0 c W) noHome0_0
  else Ring.AtK 1 (cellP0_0 c) (slotW0_0 c W) noHome0_0 (flightW0_0 c W) (landed0_0 c W) k
omit [FloatOps F] [Named F] in
theorem cellP0_0_0 : cellP0_0 (F := F) c 0 = semVal ((c : Thread nD τ), SemLoc.dma 6) 0 := congrArg (fun x => (semVal ((c : Thread nD τ), x) 0 : sProp 𝕄)) cellR0_0_0
omit [FloatOps F] [Named F] in
theorem cellP0_0_1 : cellP0_0 (F := F) c 1 = semVal ((c : Thread nD τ), SemLoc.dma 7) 0 := congrArg (fun x => (semVal ((c : Thread nD τ), x) 0 : sProp 𝕄)) cellR0_0_1
end Ring0_0

/-! ### The slots, disjoint and covering the scratch (Lib/Ring.lean `lead_disjoint` / `lead_cover`) -/

abbrev slotSet0_0 (s : Fin 2) : Finset S2x64x20000.Idx := (Rect.unit (s := S2x64x20000) ![s.val, 0, 0] S1x64x20000.size (inb_slot0_0 s)).set
theorem slotSet0_0_eq (s : Fin 2) : (rslot0_0 s).view.set = slotSet0_0 s := by
  simp only [rslot0_0, Memref.view_squeeze, View.set_reshape]; exact View.set_slice_whole _ _
theorem slots0_0_disjoint (s s' : Fin 2) (h : s ≠ s') : Disjoint (slotSet0_0 s) (slotSet0_0 s') :=
  Ring.lead_disjoint (s := S2x64x20000) (0 : Fin 3) 1 (fun s : Fin 2 => (![s.val, 0, 0] : Fin 3 → Nat)) S1x64x20000.size inb_slot0_0 (fun s => by simp) rfl s s' h
theorem slots0_0_cover : Finset.univ.biUnion slotSet0_0 = Finset.univ :=
  Ring.lead_cover (s := S2x64x20000) (0 : Fin 3) 1 (fun s : Fin 2 => (![s.val, 0, 0] : Fin 3 → Nat)) S1x64x20000.size inb_slot0_0 (fun s => by simp)
    (fun s a ha => by fin_cases a <;> first | exact absurd rfl ha | rfl) rfl (fun a ha => by fin_cases a <;> first | exact absurd rfl ha | rfl) rfl

/-! ### What the launch hands the ring, and takes back -/

section InOut0_0
variable (c : Dev nD) (W : HbBuf0 (F := F) c hbM0_0)
theorem slotP0_0_eq (s : Fin 2) (f) : slotP0_0 (F := F) c s f = (((c : Thread nD τ).loc cc0_scratch0) ↦[slotSet0_0 s]{fullShare} f : sProp 𝕄) := by
  unfold slotP0_0; rw [slotSet0_0_eq]; rfl
/-- A slot's copy of the operand, whole, is block `b`'s elements and the rest (any `b`: what a run splits off before its step
    starts block `b`, and joins back once the wait returned it); -/
theorem src0_0_split (s : Fin 2) (b : Fin 64) : wholeP0_0 (F := F) c W s ⊣⊢ iprop(srcP0_0 c W s b ∗ restP0_0 c W s b) := by
  unfold restP0_0; exact pointsTo_split_subset (Finset.subset_univ _)
/-- the operand whole at the full share is the two copies. -/
theorem whole0_0_split : (hbPt0 c hbM0_0 W : sProp 𝕄) ⊣⊢ iprop(wholeP0_0 c W 0 ∗ wholeP0_0 c W 1) :=
  pointsTo_share (PosShare.mem_left_op_right fullShare)
set_option maxHeartbeats 1000000 in
/-- the scratch whole at anything is its slots at something each, and back. -/
theorem slots0_0_in : iprop(∃ d, owns (c : Thread nD τ) scM0_0 fullShare d) ⊢ (iprop((∃ f, slotP0_0 (F := F) c 0 f) ∗ ∃ f, slotP0_0 (F := F) c 1 f) : sProp 𝕄) := by
  simp only [scM0_0, owns_whole]
  exact Ring.slots2_split (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
set_option maxHeartbeats 1000000 in
theorem slots0_0_out : (iprop((∃ f, slotP0_0 (F := F) c 0 f) ∗ ∃ f, slotP0_0 (F := F) c 1 f) : sProp 𝕄) ⊢ iprop(∃ d, owns (c : Thread nD τ) scM0_0 fullShare d) := by
  simp only [scM0_0, owns_whole]
  exact Ring.slots2_join (U := Pipeline.UD sig nD τ) (ℓ := (c : Thread nD τ).loc cc0_scratch0) (q := fullShare) slotSet0_0 slots0_0_disjoint slots0_0_cover
    (slotP0_0 c 0) (slotP0_0 c 1) (slotP0_0_eq c 0) (slotP0_0_eq c 1)
end InOut0_0

/-- INTO THE RING: the launch's pieces — the scratch whole, the cells at zero, the operand whole — are the ring before its first step; -/
theorem ring0_0_in (c : Dev nD) :
    iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_arg0))
      ⊢ ringAt0_0 c (V m c main_arg0) 0 := by
  unfold ringAt0_0; rw [if_pos rfl]; unfold Ring.At₀
  rw [Ring.bigSep_fin2]
  simp only [Ring.free, cellP0_0_0, cellP0_0_1]
  iintro ⟨HS, Hc, HW⟩
  iapply Ring.with_homes₀
  icases Hc with ⟨H0, H1⟩
  ihave HS' := (slots0_0_in (F := F) c) $$ HS
  icases HS' with ⟨⟨%d0, HS0⟩, ⟨%d1, HS1⟩⟩
  ihave HW' := (whole0_0_split (F := F) c (V m c main_arg0)).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1
/-- OUT OF THE RING: after the last step (every slot kept or free: the kept blocks forgotten) those pieces again. -/
theorem ring0_0_out (c : Dev nD) :
    ringAt0_0 c (V m c main_arg0) 64
      ⊢ iprop((∃ d, owns (c : Thread nD τ) scM0_0 fullShare d) ∗ (semVal ((c : Thread nD τ), SemLoc.dma 6) 0 ∗ semVal ((c : Thread nD τ), SemLoc.dma 7) 0) ∗ hbPt0 c hbM0_0 (V m c main_arg0)) := by
  unfold ringAt0_0; rw [if_neg (by decide)]
  iintro H
  ihave H' := (Ring.free2_of_AtK_last _ _ _ _ _) $$ H
  simp only [Ring.free, cellP0_0_0, cellP0_0_1]
  icases H' with ⟨-, ⟨H0, ⟨%f0, HS0, HW0⟩⟩, ⟨H1, ⟨%f1, HS1, HW1⟩⟩⟩
  isplitl [HS0 HS1]
  · iapply (slots0_0_out (F := F) c); isplitl [HS0]; · iexists f0; iexact HS0
    iexists f1; iexact HS1
  isplitl [H0 H1]
  · isplitl [H0]; · iexact H0
    iexact H1
  · iapply (whole0_0_split (F := F) c (V m c main_arg0)).2; isplitl [HW0]; · iexact HW0
    iexact HW1

/-! ### Ring 0's steps at each case's points, and its canonical names: the body's operands at point `t` are the ring's slots, blocks and cells -/

section Canon0_0
omit [FloatOps F] [Named F]
/-- At the points of case A the ring takes its FIRST step. -/
theorem rstep0_0_A : ∀ t : Fin grid0.N, cond0_0 (grid0.coords t) → cond0_1 (grid0.coords t) → cond0_2 (grid0.coords t) → t.val = 0 ∧ (t.val + 1) = 1 := by decide +kernel
/-- At the points of case B the ring takes a step, a block still to start. -/
theorem rstep0_0_B : ∀ t : Fin grid0.N, ¬cond0_0 (grid0.coords t) → cond0_1 (grid0.coords t) → ¬cond0_2 (grid0.coords t) → 1 ≤ t.val ∧ t.val + 1 < 64 ∧ (t.val + 1) = t.val + 1 := by decide +kernel
/-- At the points of case C the ring takes its LAST step. -/
theorem rstep0_0_C : ∀ t : Fin grid0.N, ¬cond0_0 (grid0.coords t) → ¬cond0_1 (grid0.coords t) → ¬cond0_2 (grid0.coords t) → 1 ≤ t.val ∧ t.val + 1 = 64 ∧ (t.val + 1) = t.val + 1 := by decide +kernel
set_option synthInstance.maxSize 4096 in
theorem coff0_0_1 : ∀ t : Fin grid0.N, cond0_0 (grid0.coords t) → cond0_1 (grid0.coords t) → cond0_2 (grid0.coords t) → (![0, 0, 0] : Fin 3 → Nat) = ![(Ring.sl 2 t.val).val, 0, 0] := by decide +kernel
@[sl_canon] theorem canon0_0_1 (t : Fin grid0.N) (h0 : cond0_0 (grid0.coords t)) (h1 : cond0_1 (grid0.coords t)) (h2 : cond0_2 (grid0.coords t)) :
    (scM0_0.slice (Rect.unit (s := S2x64x20000) ![0, 0, 0] S1x64x20000.size inb_S2x64x20000_S1x64x20000_0_0_0) (fun _ => rfl)).squeeze S64x20000 squeezes_S1x64x20000_S64x20000 = rslot0_0 (Ring.sl 2 t.val) :=
  congrArg (fun M : Memref sig .tc .vmem S1x64x20000 .f32 => M.squeeze S64x20000 squeezes_S1x64x20000_S64x20000) (Memref.slice_unit_congr _ (coff0_0_1 t h0 h1 h2) _ _ (fun _ => rfl) (fun _ => rfl))
set_option synthInstance.maxSize 4096 in
theorem coff0_0_2 : ∀ t : Fin grid0.N, cond0_0 (grid0.coords t) → cond0_1 (grid0.coords t) → cond0_2 (grid0.coords t) → (![0] : Fin 1 → Nat) = ![(Ring.sl 2 t.val).val] := by decide +kernel
@[sl_canon] theorem canon0_0_2 (t : Fin grid0.N) (h0 : cond0_0 (grid0.coords t)) (h1 : cond0_1 (grid0.coords t)) (h2 : cond0_2 (grid0.coords t)) :
    (cc0_scratch4.slice (Rect.unit (s := S2) ![0] S1.size inb_S2_S1_0)).squeeze S_ squeezes_S1_S_ = cellA0_0 (Ring.sl 2 t.val) :=
  congrArg (fun A : DmaSems sig S1 => A.squeeze S_ squeezes_S1_S_) (SemArray.slice_unit_congr _ (coff0_0_2 t h0 h1 h2) _ _)
set_option synthInstance.maxSize 4096 in
theorem coff0_0_3 : ∀ t : Fin grid0.N, cond0_0 (grid0.coords t) → cond0_1 (grid0.coords t) → cond0_2 (grid0.coords t) → (![0, 0] : Fin 2 → Nat) = ![64 * (Ring.bk 64 t.val).val, 0] := by decide +kernel
@[sl_canon] theorem canon0_0_3 (t : Fin grid0.N) (h0 : cond0_0 (grid0.coords t)) (h1 : cond0_1 (grid0.coords t)) (h2 : cond0_2 (grid0.coords t)) :
    hbM0_0.slice (Rect.unit (s := S4096x20000) ![0, 0] S64x20000.size inb_S4096x20000_S64x20000_0_0) (fun _ => rfl) = srcB0_0 (Ring.bk 64 t.val) :=
  congrArg (fun M : Memref sig .tc .hbm S64x20000 .f32 => M) (Memref.slice_unit_congr _ (coff0_0_3 t h0 h1 h2) _ _ (fun _ => rfl) (fun _ => rfl))
set_option synthInstance.maxSize 4096 in
theorem coff0_0_4 : ∀ t : Fin grid0.N, k0_off2 (grid0.coords t) = ![(Ring.sl 2 (t.val + 1)).val, 0, 0] := by decide +kernel
@[sl_canon] theorem canon0_0_4 (t : Fin grid0.N) (h1 : cond0_1 (grid0.coords t)) :
    (scM0_0.slice (Rect.unit (s := S2x64x20000) (k0_off2 (grid0.coords t)) S1x64x20000.size (k0_off2_inb (grid0.coords t) h1)) (fun _ => rfl)).squeeze S64x20000 squeezes_S1x64x20000_S64x20000 = rslot0_0 (Ring.sl 2 (t.val + 1)) :=
  congrArg (fun M : Memref sig .tc .vmem S1x64x20000 .f32 => M.squeeze S64x20000 squeezes_S1x64x20000_S64x20000) (Memref.slice_unit_congr _ (coff0_0_4 t ) _ _ (fun _ => rfl) (fun _ => rfl))
set_option synthInstance.maxSize 4096 in
theorem coff0_0_5 : ∀ t : Fin grid0.N, k0_off1 (grid0.coords t) = ![(Ring.sl 2 (t.val + 1)).val] := by decide +kernel
@[sl_canon] theorem canon0_0_5 (t : Fin grid0.N) (h1 : cond0_1 (grid0.coords t)) :
    (cc0_scratch4.slice (Rect.unit (s := S2) (k0_off1 (grid0.coords t)) S1.size (k0_off1_inb (grid0.coords t) h1))).squeeze S_ squeezes_S1_S_ = cellA0_0 (Ring.sl 2 (t.val + 1)) :=
  congrArg (fun A : DmaSems sig S1 => A.squeeze S_ squeezes_S1_S_) (SemArray.slice_unit_congr _ (coff0_0_5 t ) _ _)
set_option synthInstance.maxSize 4096 in
theorem coff0_0_6 : ∀ t : Fin grid0.N, cond0_0 (grid0.coords t) → cond0_1 (grid0.coords t) → cond0_2 (grid0.coords t) → k0_off3 (grid0.coords t) = ![64 * (Ring.bk 64 (t.val + 1)).val, 0] := by decide +kernel
@[sl_canon] theorem canon0_0_6 (t : Fin grid0.N) (h0 : cond0_0 (grid0.coords t)) (h1 : cond0_1 (grid0.coords t)) (h2 : cond0_2 (grid0.coords t)) :
    hbM0_0.slice (Rect.unit (s := S4096x20000) (k0_off3 (grid0.coords t)) S64x20000.size (k0_off3_inb (grid0.coords t) h1)) (fun _ => rfl) = srcB0_0 (Ring.bk 64 (t.val + 1)) :=
  congrArg (fun M : Memref sig .tc .hbm S64x20000 .f32 => M) (Memref.slice_unit_congr _ (coff0_0_6 t h0 h1 h2) _ _ (fun _ => rfl) (fun _ => rfl))
set_option synthInstance.maxSize 4096 in
theorem coff0_0_7 : ∀ t : Fin grid0.N, k0_off5 (grid0.coords t) = ![(Ring.sl 2 t.val).val, 0, 0] := by decide +kernel
@[sl_canon] theorem canon0_0_7 (t : Fin grid0.N) :
    (scM0_0.slice (Rect.unit (s := S2x64x20000) (k0_off5 (grid0.coords t)) S1x64x20000.size (k0_off5_inb (grid0.coords t))) (fun _ => rfl)).squeeze S64x20000 squeezes_S1x64x20000_S64x20000 = rslot0_0 (Ring.sl 2 t.val) :=
  congrArg (fun M : Memref sig .tc .vmem S1x64x20000 .f32 => M.squeeze S64x20000 squeezes_S1x64x20000_S64x20000) (Memref.slice_unit_congr _ (coff0_0_7 t ) _ _ (fun _ => rfl) (fun _ => rfl))
set_option synthInstance.maxSize 4096 in
theorem coff0_0_8 : ∀ t : Fin grid0.N, k0_off4 (grid0.coords t) = ![(Ring.sl 2 t.val).val] := by decide +kernel
@[sl_canon] theorem canon0_0_8 (t : Fin grid0.N) :
    (cc0_scratch4.slice (Rect.unit (s := S2) (k0_off4 (grid0.coords t)) S1.size (k0_off4_inb (grid0.coords t)))).squeeze S_ squeezes_S1_S_ = cellA0_0 (Ring.sl 2 t.val) :=
  congrArg (fun A : DmaSems sig S1 => A.squeeze S_ squeezes_S1_S_) (SemArray.slice_unit_congr _ (coff0_0_8 t ) _ _)
set_option synthInstance.maxSize 4096 in
theorem coff0_0_9 : ∀ t : Fin grid0.N, ¬cond0_0 (grid0.coords t) → cond0_1 (grid0.coords t) → ¬cond0_2 (grid0.coords t) → k0_off3 (grid0.coords t) = ![64 * (Ring.bk 64 (t.val + 1)).val, 0] := by decide +kernel
@[sl_canon] theorem canon0_0_9 (t : Fin grid0.N) (h0 : ¬cond0_0 (grid0.coords t)) (h1 : cond0_1 (grid0.coords t)) (h2 : ¬cond0_2 (grid0.coords t)) :
    hbM0_0.slice (Rect.unit (s := S4096x20000) (k0_off3 (grid0.coords t)) S64x20000.size (k0_off3_inb (grid0.coords t) h1)) (fun _ => rfl) = srcB0_0 (Ring.bk 64 (t.val + 1)) :=
  congrArg (fun M : Memref sig .tc .hbm S64x20000 .f32 => M) (Memref.slice_unit_congr _ (coff0_0_9 t h0 h1 h2) _ _ (fun _ => rfl) (fun _ => rfl))
set_option synthInstance.maxSize 4096 in
theorem coff0_0_10 : ∀ t : Fin grid0.N, k0_off7 (grid0.coords t) = ![(Ring.sl 2 t.val).val, 0, 0] := by decide +kernel
/-- The ring-memref load's box in the slot's spelling (the block this step waited) it lies inside that slot. -/
instance (priority := high) closedOff0_0_10 (t : Fin grid0.N) : ClosedOff (k0_off7 (grid0.coords t)) := ⟨![(Ring.sl 2 t.val).val, 0, 0], coff0_0_10 t⟩
end Canon0_0

end Cert.KernelIdeal.Gen

end
-- ==== Proof.Blocks.lean ====
/- What the kernel's body leaves at one grid point, as functions of what it reads: the three values the first point
   prepares in scratch (the table of softplus values, theta, and the constant shared by all rows) and the block of
   64 losses. -/
module

public import proofs.«01_k».proof.Proof.Runs
public import Idealize.ShloMosaic.Lib.Pipeline.Value
public import Idealize.ShloMosaic.Lib.Tactic.Stretches

@[expose] public section

set_option maxRecDepth 16384

noncomputable section

namespace Cert.KernelIdeal.Gen

open Idealize.ShloMosaic Idealize.ShloMosaic.TcCoe Idealize.SL Idealize.SL.Sem

variable {F : FTy → Type} [FloatOps F] [Named F]

/-- The table the first point fills from `Wᵀ`: 192 rows, the 64 rows of `softplus(Wᵀ)` in three layers. -/
def tabOf (x2 : Vec F S64x20000 .f32) : Vec F S192x20000 .bf16 :=
  View.canon [⟨Rect.unit (s := S192x20000) ![128, 0] S64x20000.size inb_S192x20000_S64x20000_128_0, k0_pay8 x2⟩,
    ⟨Rect.unit (s := S192x20000) ![64, 0] S64x20000.size inb_S192x20000_S64x20000_64_0, k0_pay7 x2⟩,
    ⟨Rect.unit (s := S192x20000) ![0, 0] S64x20000.size inb_S192x20000_S64x20000_0_0, k0_pay6 x2⟩]

/-- The row of dispersions the first point fills from `px_r`. -/
def thetaOf (x1 : Vec F S1x20000 .f32) : Vec F S1x20000 .f32 := k0_pay10 x1

/-- The part of the loss that no cell changes, which the first point sums over the genes. -/
def constOf (x1 : Vec F S1x20000 .f32) : Vec F S1x1 .f32 := fun _ => k0_pay12 (k0_pay9 x1) (k0_pay11 x1)

/-- The block of losses of 64 cells: from their labels `x0`, their counts `v37`, the table `v64`, the dispersions `v66`
    and the constant `cv`. -/
def blockOut (x0 : Vec F S1x1x64 .i32) (v37 : Vec F S1x64x20000 .f32) (v64 : Vec F S192x20000 .bf16)
    (v66 : Vec F S1x20000 .f32) (cv : Elt F .f32) : Vec F S1x1x64 .f32 :=
  k0_pay1 (k0_pay13 v37) (k0_pay19 (k0_pay13 v37) v66) (k0_pay20 (k0_pay13 v37) (k0_pay16 v66)) (k0_pay21 (k0_pay13 v37))
    (k0_pay24 (k0_pay13 v37) (k0_pay14 x0 v64) (k0_pay15 v66) (k0_pay17 v37))
    (k0_pay25 (k0_pay13 v37) (k0_pay14 x0 v64) v66 (k0_pay15 v66) (k0_pay17 v37))
    (k0_pay26 (k0_pay13 v37) (k0_pay14 x0 v64) v66 (k0_pay15 v66) (k0_pay16 v66) (k0_pay17 v37))
    (k0_pay27 (k0_pay13 v37) (k0_pay14 x0 v64) v66 (k0_pay15 v66) (k0_pay17 v37))
    (k0_pay28 (k0_pay13 v37) v66) cv

/-- The counts the body loads at point `t`: the ring's slot read back after block `t` of `W` landed in it. -/
def xslot (c : Dev nD) (t : Fin cfg0.N) (W : HbBuf0 (F := F) c hbM0_0) : Vec F S1x64x20000 .f32 :=
  View.readAt (Elt F) scM0_0.view (Rect.unit (s := S2x64x20000) (k0_off7 (grid0.coords t)) S1x64x20000.size (k0_off7_inb (grid0.coords t))).toLoadRect
    ((rslot0_0 (Ring.sl 2 t.val)).view.writes (Elt F) (rslot0_0 (Ring.sl 2 t.val)).view.junk
      [⟨Rect.whole S64x20000, ReadAs.same.apply ((srcB0_0 (Ring.bk 64 t.val)).view.read (Elt F) W)⟩])

theorem zero3 : (![0, 0, 0] : Fin 3 → Nat) = fun _ => 0 := funext fun a => by fin_cases a <;> rfl
theorem zero2 : (![0, 0] : Fin 2 → Nat) = fun _ => 0 := funext fun a => by fin_cases a <;> rfl

omit [FloatOps F] [Named F] in
/-- A load of a whole buffer reads its contents. -/
theorem readAt_unread {sp : Space} {S : Shape} {e : EltTy} (M : Memref sig .tc sp S e) (hM : M.IsWhole)
    (d : S.Idx → Elt F e) {off : Fin S.rank → Nat} (h : off = fun _ => 0) (inb : ∀ a, off a + S.size a ≤ S.size a) :
    View.readAt (Elt F) M.view (Rect.unit off S.size inb).toLoadRect (hM.unread d) = (d : (Rect.unit off S.size inb).shape.Idx → Elt F e) := by
  refine Eq.trans (congrArg (fun z => View.ld z (Rect.unit off S.size inb)) (hM.read_unread d)) ?_
  exact View.ld_unit_zero h inb d

/-- The three layers cover the table. -/
theorem tab_cover (a b c' : S64x20000.Idx → Elt F .bf16) : ∀ y : S192x20000.Idx, ∃ p ∈
    ([⟨Rect.unit (s := S192x20000) ![128, 0] S64x20000.size inb_S192x20000_S64x20000_128_0, a⟩,
    ⟨Rect.unit (s := S192x20000) ![64, 0] S64x20000.size inb_S192x20000_S64x20000_64_0, b⟩,
    ⟨Rect.unit (s := S192x20000) ![0, 0] S64x20000.size inb_S192x20000_S64x20000_0_0, c'⟩] : List (View.Piece (Elt F) S192x20000 .bf16)), y ∈ p.1.set :=
  View.cover_of_tiled _ S64x20000.size rfl

/-- The table read back whole after its three stores. -/
theorem readCov_tab (v : View sig .tc .vmem S192x20000 .bf16) (x2 : Vec F S64x20000 .f32) :
    v.readCov [⟨Rect.unit (s := S192x20000) ![128, 0] S64x20000.size inb_S192x20000_S64x20000_128_0, k0_pay8 x2⟩,
      ⟨Rect.unit (s := S192x20000) ![64, 0] S64x20000.size inb_S192x20000_S64x20000_64_0, k0_pay7 x2⟩,
      ⟨Rect.unit (s := S192x20000) ![0, 0] S64x20000.size inb_S192x20000_S64x20000_0_0, k0_pay6 x2⟩]
      (Rect.unit (s := S192x20000) ![0, 0] S192x20000.size inb_S192x20000_S192x20000_0_0).toLoadRect = tabOf x2 := by
  rw [View.readCov_eq_canon_ld _ _ _ (tab_cover _ _ _)]
  exact View.ld_unit_zero zero2 inb_S192x20000_S192x20000_0_0 _

end Cert.KernelIdeal.Gen

end
-- ==== Proof.RunA.lean ====
/- The run of the kernel's body at the first point, with what it leaves named. -/
module

public import proofs.«01_k».proof.Proof.Blocks

@[expose] public section

-- deciding that an index lies in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The kernel's body at the first point: given its staging buffers at their contents and the ring of blocks of `x` in its state
    before the point, it runs, leaves the inputs as they were, fills the scratch from its inputs, leaves the block of losses in the
    output's staging buffer, and leaves the ring in its state after the point. -/
theorem kernelRun0_A (c : Dev nD) (t : Fin cfg0.N) (arg2 : Memref sig .tc .vmem S1x1x64 .i32) (harg2 : arg2.IsWhole) (arg3 : Memref sig .tc .vmem S1x20000 .f32) (harg3 : arg3.IsWhole) (arg4 : Memref sig .tc .vmem S64x20000 .f32) (harg4 : arg4.IsWhole) (arg5 : Memref sig .tc .vmem S1x1x64 .f32) (harg5 : arg5.IsWhole) (arg7 : Memref sig .tc .vmem S192x20000 .bf16) (harg7 : arg7.IsWhole) (arg8 : Memref sig .tc .vmem S1x20000 .f32) (harg8 : arg8.IsWhole) (arg9 : Memref sig .tc .smem S1x1 .f32) (harg9 : arg9.IsWhole) (hc0 : cond0_0 (grid0.coords t)) (hc1 : cond0_1 (grid0.coords t)) (hc2 : cond0_2 (grid0.coords t))
    (x0 : Vec F S1x1x64 .i32) (x1 : Vec F S1x20000 .f32) (x2 : Vec F S64x20000 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg7 fullShare d) ∗ (∃ d, owns (c : Thread nD τ) arg8 fullShare d) ∗ (∃ d, owns (c : Thread nD τ) arg9 fullShare d) ∗ Ring.free (cellP0_0 c) (slotW0_0 c fh0) (Ring.sl 2 t.val) ∗ Ring.free (cellP0_0 c) (slotW0_0 c fh0) (Ring.sl 2 (t.val + 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (blockOut x0 (xslot c t fh0) (tabOf x2) (thetaOf x1) (constOf x1 (Shape.Idx.first (by decide)))) ∗ owns (c : Thread nD τ) arg7 fullShare (tabOf x2) ∗ owns (c : Thread nD τ) arg8 fullShare (thetaOf x1) ∗ owns (c : Thread nD τ) arg9 fullShare (constOf x1) ∗ Ring.inflight (flightW0_0 c fh0) (Ring.sl 2 (t.val + 1)) (Ring.bk 64 (t.val + 1)) ∗ Ring.kept (cellP0_0 c) (slotW0_0 c fh0) (landed0_0 c fh0) (Ring.sl 2 t.val) (Ring.bk 64 t.val) ∗ (∃ W', owes (c : Thread nD τ) 0 W')) -∗ K ⟨⟩))
          ⊢ wp frame (wpE (defs₀ (F := F)) Variants.none c none) Set.univ (cc0__loss_kernel (grid0.coords t) (Memref.whole main_arg0) (Memref.isWhole_whole _) arg2 harg2 arg3 harg3 arg4 harg4 arg5 harg5 scM0_0 (Memref.isWhole_whole _) arg7 harg7 arg8 harg8 arg9 harg9 cc0_scratch4) K := by
    intro W K
    haveI : Fact (cond0_0 (grid0.coords t)) := ⟨hc0⟩
    haveI : Fact (cond0_1 (grid0.coords t)) := ⟨hc1⟩
    haveI : Fact (cond0_2 (grid0.coords t)) := ⟨hc2⟩
    simp only [cc0__loss_kernel_eq_skeleton]; unfold cc0__loss_kernel_skel
    simp only [k0_part3_eq_skeleton, k0_part1_eq_skeleton, k0_part2_eq_skeleton, k0_part4_eq_skeleton, k0_part5_eq_skeleton]
    have hcanon0 := canon0_0_1 t hc0 hc1 hc2
    have hcanon1 := canon0_0_2 t hc0 hc1 hc2
    have hcanon2 := canon0_0_3 t hc0 hc1 hc2
    unfold owns Ring.free Ring.inflight Ring.kept
    iintro ⟨⟨%f0, %hf0, H0⟩, ⟨%f1, %hf1, H1⟩, ⟨%f2, %hf2, H2⟩, ⟨%d3, %f3, -, H3⟩, ⟨%ds1, %fs1, -, HS1⟩, ⟨%ds2, %fs2, -, HS2⟩, ⟨%ds3, %fs3, -, HS3⟩, ⟨Hc0_0_0, ⟨%fs0_0_0, Hs0_0_0, Hw0_0_0⟩⟩, ⟨Hc0_0_1, ⟨%fs0_0_1, Hs0_0_1, Hw0_0_1⟩⟩, HW, Hk⟩
    ihave Hsp0_0_0 := (src0_0_split c fh0 (Ring.sl 2 t.val) (Ring.bk 64 t.val)).1 $$ Hw0_0_0
    icases Hsp0_0_0 with ⟨Hh0_0_0, Hr0_0_0⟩
    ihave Hsp0_0_1 := (src0_0_split c fh0 (Ring.sl 2 (t.val + 1)) (Ring.bk 64 (t.val + 1))).1 $$ Hw0_0_1
    icases Hsp0_0_1 with ⟨Hh0_0_1, Hr0_0_1⟩
    obtain rfl := harg2.eq_unread hf0; obtain rfl := harg3.eq_unread hf1; obtain rfl := harg4.eq_unread hf2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_eq_canon _ _ _ (fun y => ⟨_, List.mem_singleton_self _, View.mem_set_unit_zero zero3 inb_S1x1x64_S1x1x64_0_0_0 y⟩)).trans ?_
      refine (View.canon_unit_zero zero3 inb_S1x1x64_S1x1x64_0_0_0 _).trans ?_
      have e2 := readAt_unread (F := F) arg2 harg2 x0 zero3 inb_S1x1x64_S1x1x64_0_0_0
      have e3 := readAt_unread (F := F) arg3 harg3 x1 zero2 inb_S1x20000_S1x20000_0_0
      have e4 := readAt_unread (F := F) arg4 harg4 x2 zero2 inb_S64x20000_S64x20000_0_0
      have e7 := readCov_tab (F := F) arg7.view x2
      have e8 := View.readCov_unit_zero (Val := Elt F) arg8.view zero2 inb_S1x20000_S1x20000_0_0 (thetaOf x1)
      have h37 : kernelRun0_A.sl.v37 c t fh0 = xslot c t fh0 := rfl
      have h64 : kernelRun0_A.sl.v64 c arg4 harg4 arg7 x2 = tabOf x2 := by
        sl_open_run; rw [e4]; exact e7
      have h66 : kernelRun0_A.sl.v66 c arg3 harg3 arg8 x1 = thetaOf x1 := by
        sl_open_run; rw [e3]; exact e8
      have h14 : kernelRun0_A.sl.r_14 c arg3 harg3 x1 = k0_pay12 (k0_pay9 x1) (k0_pay11 x1) := by
        sl_open_run; rw [e3]; rfl
      rw [h14]
      delta kernelRun0_A.sl.r_13
      delta kernelRun0_A.sl.r_12
      delta kernelRun0_A.sl.r_11
      delta kernelRun0_A.sl.r_10
      delta kernelRun0_A.sl.r_9
      delta kernelRun0_A.sl.r_8
      delta kernelRun0_A.sl.r_7
      delta kernelRun0_A.sl.r_6
      delta kernelRun0_A.sl.r_5
      delta kernelRun0_A.sl.r_4
      delta kernelRun0_A.sl.r_3
      delta kernelRun0_A.sl.r_2
      delta kernelRun0_A.sl.r_1
      rw [h37, h64, h66]
      rw [e2, blockOut, constOf]
    isplitl [HS1]
    · iexists _; isplitr; swap; · iexact HS1
      ipureintro
      refine (View.read_writes_eq_canon _ _ _ (tab_cover _ _ _)).trans ?_
      sl_open_run
      rw [readAt_unread (F := F) arg4 harg4 x2 zero2 inb_S64x20000_S64x20000_0_0]
      rfl
    isplitl [HS2]
    · iexists _; isplitr; swap; · iexact HS2
      ipureintro
      refine (View.read_writes_eq_canon _ _ _ (fun y => ⟨_, List.mem_singleton_self _, View.mem_set_unit_zero zero2 inb_S1x20000_S1x20000_0_0 y⟩)).trans ?_
      refine (View.canon_unit_zero zero2 inb_S1x20000_S1x20000_0_0 _).trans ?_
      sl_open_run
      rw [readAt_unread (F := F) arg3 harg3 x1 zero2 inb_S1x20000_S1x20000_0_0]
      rfl
    isplitl [HS3]
    · iexists _; isplitr; swap; · iexact HS3
      ipureintro
      refine (View.read_writes_eq_canon _ _ _ (fun y => ⟨_, List.mem_singleton_self _, View.mem_set_unit_zero zero2 inb_S1x1_S1x1_0_0 y⟩)).trans ?_
      refine (View.canon_unit_zero zero2 inb_S1x1_S1x1_0_0 _).trans ?_
      sl_open_run
      rw [readAt_unread (F := F) arg3 harg3 x1 zero2 inb_S1x20000_S1x20000_0_0]
      rfl
    isplitl [Hc0_0_1 Hr0_0_1]
    · iexists _; isplitl [Hc0_0_1]; · iexact Hc0_0_1
      iexact Hr0_0_1
    isplitl [Hc0_0_0 Hs0_0_0 Hh0_0_0 Hr0_0_0]
    · isplitl [Hc0_0_0]; · iexact Hc0_0_0
      iexists _; isplitl [Hs0_0_0]; · iexact Hs0_0_0
      iapply (src0_0_split c fh0 (Ring.sl 2 t.val) (Ring.bk 64 t.val)).2; isplitl [Hh0_0_0]; · iexact Hh0_0_0
      iexact Hr0_0_0
    iexists _; iexact HW

end Cert.KernelIdeal.Gen

end
-- ==== Proof.RunB.lean ====
/- The run of the kernel's body at the points between the first and the last, with what it leaves named. -/
module

public import proofs.«01_k».proof.Proof.RunA

@[expose] public section

-- deciding that an index lies in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The kernel's body at the points between the first and the last: given its staging buffers at their contents, its scratch at `d1`, `d2`, `d3` and the ring of blocks of `x` in its state
    before the point, it runs, leaves the inputs as they were, leaves the scratch as it was, leaves the block of losses in the
    output's staging buffer, and leaves the ring in its state after the point. -/
theorem kernelRun0_B (c : Dev nD) (t : Fin cfg0.N) (arg2 : Memref sig .tc .vmem S1x1x64 .i32) (harg2 : arg2.IsWhole) (arg3 : Memref sig .tc .vmem S1x20000 .f32) (harg3 : arg3.IsWhole) (arg4 : Memref sig .tc .vmem S64x20000 .f32) (harg4 : arg4.IsWhole) (arg5 : Memref sig .tc .vmem S1x1x64 .f32) (harg5 : arg5.IsWhole) (arg7 : Memref sig .tc .vmem S192x20000 .bf16) (harg7 : arg7.IsWhole) (arg8 : Memref sig .tc .vmem S1x20000 .f32) (harg8 : arg8.IsWhole) (arg9 : Memref sig .tc .smem S1x1 .f32) (harg9 : arg9.IsWhole) (hc0 : ¬cond0_0 (grid0.coords t)) (hc1 : cond0_1 (grid0.coords t)) (hc2 : ¬cond0_2 (grid0.coords t))
    (x0 : Vec F S1x1x64 .i32) (x1 : Vec F S1x20000 .f32) (x2 : Vec F S64x20000 .f32) (d1 : Vec F S192x20000 .bf16) (d2 : Vec F S1x20000 .f32) (d3 : Vec F S1x1 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg7 fullShare d1 ∗ owns (c : Thread nD τ) arg8 fullShare d2 ∗ owns (c : Thread nD τ) arg9 fullShare d3 ∗ Ring.inflight (flightW0_0 c fh0) (Ring.sl 2 t.val) (Ring.bk 64 t.val) ∗ Ring.kept (cellP0_0 c) (slotW0_0 c fh0) (landed0_0 c fh0) (Ring.sl 2 (t.val + 1)) (Ring.bk 64 (t.val - 1)) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (blockOut x0 (xslot c t fh0) d1 d2 (d3 (Shape.Idx.first (by decide)))) ∗ owns (c : Thread nD τ) arg7 fullShare d1 ∗ owns (c : Thread nD τ) arg8 fullShare d2 ∗ owns (c : Thread nD τ) arg9 fullShare d3 ∗ Ring.inflight (flightW0_0 c fh0) (Ring.sl 2 (t.val + 1)) (Ring.bk 64 (t.val + 1)) ∗ Ring.kept (cellP0_0 c) (slotW0_0 c fh0) (landed0_0 c fh0) (Ring.sl 2 t.val) (Ring.bk 64 t.val) ∗ (∃ W', owes (c : Thread nD τ) 0 W')) -∗ K ⟨⟩))
          ⊢ wp frame (wpE (defs₀ (F := F)) Variants.none c none) Set.univ (cc0__loss_kernel (grid0.coords t) (Memref.whole main_arg0) (Memref.isWhole_whole _) arg2 harg2 arg3 harg3 arg4 harg4 arg5 harg5 scM0_0 (Memref.isWhole_whole _) arg7 harg7 arg8 harg8 arg9 harg9 cc0_scratch4) K := by
    intro W K
    haveI : Fact (¬cond0_0 (grid0.coords t)) := ⟨hc0⟩
    haveI : Fact (cond0_1 (grid0.coords t)) := ⟨hc1⟩
    haveI : Fact (¬cond0_2 (grid0.coords t)) := ⟨hc2⟩
    simp only [cc0__loss_kernel_eq_skeleton]; unfold cc0__loss_kernel_skel
    simp only [k0_part3_eq_skeleton, k0_part4_eq_skeleton, k0_part5_eq_skeleton]
    unfold owns Ring.inflight Ring.kept
    iintro ⟨⟨%f0, %hf0, H0⟩, ⟨%f1, %hf1, H1⟩, ⟨%f2, %hf2, H2⟩, ⟨%d5, %f3, -, H3⟩, ⟨%fs1, %hfs1, HS1⟩, ⟨%fs2, %hfs2, HS2⟩, ⟨%fs3, %hfs3, HS3⟩, ⟨%ff0_0, Hf0_0, Hrf0_0⟩, ⟨Hc0_0_1, ⟨%fs0_0_1, Hs0_0_1, Hw0_0_1⟩⟩, HW, Hk⟩
    ihave Hsp0_0_1 := (src0_0_split c fh0 (Ring.sl 2 (t.val + 1)) (Ring.bk 64 (t.val + 1))).1 $$ Hw0_0_1
    icases Hsp0_0_1 with ⟨Hh0_0_1, Hr0_0_1⟩
    obtain rfl := harg2.eq_unread hf0; obtain rfl := harg3.eq_unread hf1; obtain rfl := harg4.eq_unread hf2; obtain rfl := harg7.eq_unread hfs1; obtain rfl := harg8.eq_unread hfs2; obtain rfl := harg9.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_eq_canon _ _ _ (fun y => ⟨_, List.mem_singleton_self _, View.mem_set_unit_zero zero3 inb_S1x1x64_S1x1x64_0_0_0 y⟩)).trans ?_
      refine (View.canon_unit_zero zero3 inb_S1x1x64_S1x1x64_0_0_0 _).trans ?_
      have e2 := readAt_unread (F := F) arg2 harg2 x0 zero3 inb_S1x1x64_S1x1x64_0_0_0
      have e7 := readAt_unread (F := F) arg7 harg7 d1 zero2 inb_S192x20000_S192x20000_0_0
      have e8 := readAt_unread (F := F) arg8 harg8 d2 zero2 inb_S1x20000_S1x20000_0_0
      have e9 := readAt_unread (F := F) arg9 harg9 d3 zero2 inb_S1x1_S1x1_0_0
      sl_unfold_run_names
      rw [e2, e7, e8, blockOut]
      exact congrArg (k0_pay1 _ _ _ _ _ _ _ _ _) (congrFun e9 _)
    isplitl [HS1]
    · iexists _; isplitr; · ipureintro; exact harg7.read_unread _
      iexact HS1
    isplitl [HS2]
    · iexists _; isplitr; · ipureintro; exact harg8.read_unread _
      iexact HS2
    isplitl [HS3]
    · iexists _; isplitr; · ipureintro; exact harg9.read_unread _
      iexact HS3
    isplitl [Hc0_0_1 Hr0_0_1]
    · iexists _; isplitl [Hc0_0_1]; · iexact Hc0_0_1
      iexact Hr0_0_1
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 64 t.val)).2; isplitl [Hf0_0_src]; · iexact Hf0_0_src
      iexact Hrf0_0
    iexists _; iexact HW

end Cert.KernelIdeal.Gen

end
-- ==== Proof.RunC.lean ====
/- The run of the kernel's body at the last point, with what it leaves named. -/
module

public import proofs.«01_k».proof.Proof.RunB

@[expose] public section

-- deciding that an index lies in a rectangle recurses once per coordinate of its long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The kernel's body at the last point: given its staging buffers at their contents, its scratch at `d1`, `d2`, `d3` and the ring of blocks of `x` in its state
    before the point, it runs, leaves the inputs as they were, leaves the scratch as it was, leaves the block of losses in the
    output's staging buffer, and leaves the ring in its state after the point. -/
theorem kernelRun0_C (c : Dev nD) (t : Fin cfg0.N) (arg2 : Memref sig .tc .vmem S1x1x64 .i32) (harg2 : arg2.IsWhole) (arg3 : Memref sig .tc .vmem S1x20000 .f32) (harg3 : arg3.IsWhole) (arg4 : Memref sig .tc .vmem S64x20000 .f32) (harg4 : arg4.IsWhole) (arg5 : Memref sig .tc .vmem S1x1x64 .f32) (harg5 : arg5.IsWhole) (arg7 : Memref sig .tc .vmem S192x20000 .bf16) (harg7 : arg7.IsWhole) (arg8 : Memref sig .tc .vmem S1x20000 .f32) (harg8 : arg8.IsWhole) (arg9 : Memref sig .tc .smem S1x1 .f32) (harg9 : arg9.IsWhole) (hc0 : ¬cond0_0 (grid0.coords t)) (hc1 : ¬cond0_1 (grid0.coords t)) (hc2 : ¬cond0_2 (grid0.coords t))
    (x0 : Vec F S1x1x64 .i32) (x1 : Vec F S1x20000 .f32) (x2 : Vec F S64x20000 .f32) (d1 : Vec F S192x20000 .bf16) (d2 : Vec F S1x20000 .f32) (d3 : Vec F S1x1 .f32) (fh0 : HbBuf0 (F := F) c hbM0_0) :
      ∀ (W : Waits sig Unit) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg7 fullShare d1 ∗ owns (c : Thread nD τ) arg8 fullShare d2 ∗ owns (c : Thread nD τ) arg9 fullShare d3 ∗ Ring.inflight (flightW0_0 c fh0) (Ring.sl 2 t.val) (Ring.bk 64 t.val) ∗ owes (c : Thread nD τ) 0 W
            ∗ (iprop(owns (c : Thread nD τ) arg2 fullShare x0 ∗ owns (c : Thread nD τ) arg3 fullShare x1 ∗ owns (c : Thread nD τ) arg4 fullShare x2 ∗ owns (c : Thread nD τ) arg5 fullShare (blockOut x0 (xslot c t fh0) d1 d2 (d3 (Shape.Idx.first (by decide)))) ∗ owns (c : Thread nD τ) arg7 fullShare d1 ∗ owns (c : Thread nD τ) arg8 fullShare d2 ∗ owns (c : Thread nD τ) arg9 fullShare d3 ∗ Ring.kept (cellP0_0 c) (slotW0_0 c fh0) (landed0_0 c fh0) (Ring.sl 2 t.val) (Ring.bk 64 t.val) ∗ (∃ W', owes (c : Thread nD τ) 0 W')) -∗ K ⟨⟩))
          ⊢ wp frame (wpE (defs₀ (F := F)) Variants.none c none) Set.univ (cc0__loss_kernel (grid0.coords t) (Memref.whole main_arg0) (Memref.isWhole_whole _) arg2 harg2 arg3 harg3 arg4 harg4 arg5 harg5 scM0_0 (Memref.isWhole_whole _) arg7 harg7 arg8 harg8 arg9 harg9 cc0_scratch4) K := by
    intro W K
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0__loss_kernel_eq_skeleton]; unfold cc0__loss_kernel_skel
    simp only [k0_part3_eq_skeleton, k0_part4_eq_skeleton, k0_part5_eq_skeleton]
    unfold owns Ring.inflight Ring.kept
    iintro ⟨⟨%f0, %hf0, H0⟩, ⟨%f1, %hf1, H1⟩, ⟨%f2, %hf2, H2⟩, ⟨%d5, %f3, -, H3⟩, ⟨%fs1, %hfs1, HS1⟩, ⟨%fs2, %hfs2, HS2⟩, ⟨%fs3, %hfs3, HS3⟩, ⟨%ff0_0, Hf0_0, Hrf0_0⟩, HW, Hk⟩
    obtain rfl := harg2.eq_unread hf0; obtain rfl := harg3.eq_unread hf1; obtain rfl := harg4.eq_unread hf2; obtain rfl := harg7.eq_unread hfs1; obtain rfl := harg8.eq_unread hfs2; obtain rfl := harg9.eq_unread hfs3
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      refine (View.read_writes_eq_canon _ _ _ (fun y => ⟨_, List.mem_singleton_self _, View.mem_set_unit_zero zero3 inb_S1x1x64_S1x1x64_0_0_0 y⟩)).trans ?_
      refine (View.canon_unit_zero zero3 inb_S1x1x64_S1x1x64_0_0_0 _).trans ?_
      have e2 := readAt_unread (F := F) arg2 harg2 x0 zero3 inb_S1x1x64_S1x1x64_0_0_0
      have e7 := readAt_unread (F := F) arg7 harg7 d1 zero2 inb_S192x20000_S192x20000_0_0
      have e8 := readAt_unread (F := F) arg8 harg8 d2 zero2 inb_S1x20000_S1x20000_0_0
      have e9 := readAt_unread (F := F) arg9 harg9 d3 zero2 inb_S1x1_S1x1_0_0
      sl_unfold_run_names
      rw [e2, e7, e8, blockOut]
      exact congrArg (k0_pay1 _ _ _ _ _ _ _ _ _) (congrFun e9 _)
    isplitl [HS1]
    · iexists _; isplitr; · ipureintro; exact harg7.read_unread _
      iexact HS1
    isplitl [HS2]
    · iexists _; isplitr; · ipureintro; exact harg8.read_unread _
      iexact HS2
    isplitl [HS3]
    · iexists _; isplitr; · ipureintro; exact harg9.read_unread _
      iexact HS3
    isplitl [Hf0_0 Hf0_0_dst Hf0_0_src Hrf0_0]
    · isplitl [Hf0_0]; · iexact Hf0_0
      iexists _; isplitl [Hf0_0_dst]; · iexact Hf0_0_dst
      iapply (src0_0_split c fh0 (Ring.sl 2 t.val) (Ring.bk 64 t.val)).2; isplitl [Hf0_0_src]; · iexact Hf0_0_src
      iexact Hrf0_0
    iexists _; iexact HW

end Cert.KernelIdeal.Gen

end
-- ==== Proof.Launch.lean ====
module

public import proofs.«01_k».proof.Proof.RunC
public import Idealize.ShloMosaic.Lib.Pipeline.FrameSuffix
public import Idealize.ShloMosaic.Lib.Claim

/-! The whole run of the kernel with named constants: what every grid point finds and leaves (the three scratch
buffers keep what the first point stored in them), and from it what the arrays hold when the launch has ended. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The first grid point. -/
def t0 : Fin cfg0.N := ⟨0, by rw [show cfg0.N = 64 from N_0]; decide⟩

/-- The block of 64 losses the body leaves at grid point `t`, from what the run finds in the arguments. -/
def outBlk (c : Dev nD) (t : Fin cfg0.N) : Vec F S1x1x64 .f32 :=
  blockOut (iblk m c 0 t) (xslot c t (V m c main_arg0)) (tabOf (iblk m c 2 t0)) (thetaOf (iblk m c 1 t0))
    (constOf (iblk m c 1 t0) (Shape.Idx.first (by decide)))

/-- The three scratch buffers before point `k`: at anything before the first point, then at the table, the row of
    thetas and the constant that the first point stored. -/
def scrAt (c : Dev nD) (k : ℕ) : sProp 𝕄 :=
  if k = 0 then iprop((∃ d, owns (c : Thread nD τ) scM0_1 fullShare d) ∗ (∃ d, owns (c : Thread nD τ) scM0_2 fullShare d) ∗ (∃ d, owns (c : Thread nD τ) scM0_3 fullShare d))
  else iprop(owns (c : Thread nD τ) scM0_1 fullShare (tabOf (iblk m c 2 t0)) ∗ owns (c : Thread nD τ) scM0_2 fullShare (thetaOf (iblk m c 1 t0)) ∗ owns (c : Thread nD τ) scM0_3 fullShare (constOf (iblk m c 1 t0)))

/-- Before the first point the scratch is at anything. -/
theorem scrAt_zero (c : Dev nD) : scrAt m c 0 = iprop((∃ d, owns (c : Thread nD τ) scM0_1 fullShare d) ∗ (∃ d, owns (c : Thread nD τ) scM0_2 fullShare d) ∗ (∃ d, owns (c : Thread nD τ) scM0_3 fullShare d)) := by
  unfold scrAt; exact if_pos rfl

/-- Before every later point the scratch is at what the first point stored. -/
theorem scrAt_pos (c : Dev nD) (k : ℕ) (hk : ¬k = 0) : scrAt m c k = iprop(owns (c : Thread nD τ) scM0_1 fullShare (tabOf (iblk m c 2 t0)) ∗ owns (c : Thread nD τ) scM0_2 fullShare (thetaOf (iblk m c 1 t0)) ∗ owns (c : Thread nD τ) scM0_3 fullShare (constOf (iblk m c 1 t0))) := by
  unfold scrAt; exact if_neg hk

/-- What holds before point `k` apart from the windows: the scratch, the generator register at some state, and the
    ring of two slots that streams the counts. -/
def PhiR (c : Dev nD) (k : ℕ) : sProp 𝕄 := iprop(scrAt m c k ∗ (∃ r, prngReg c r) ∗ ringAt0_0 c (V m c main_arg0) k)

/-- The proof data of the pipeline: the arrays as the region finds them, each input window's block left as found,
    the output window's block at `outBlk`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk m c t
  Φ t := PhiR m c t.val
  q _ := fullShare
  owed _ := 0

/-- The proof data's arrays are the contents found at the region's entry. -/
theorem A_eq (c : Dev nD) (w : Fin cfg0.W) : (dats m 0 c).A w = V m c (Pipeline.arrRef spec0 w) := by
  dsimp only [dats]

/-- The invariant at a point's start, by the point's number. -/
theorem PhiR_castSucc (c : Dev nD) (t : Fin cfg0.N) : (dats m 0 c).Φ t.castSucc = PhiR m c t.val := by
  dsimp only [dats]; simp only [Fin.coe_castSucc]
/-- The invariant at a point's end, by the point's number. -/
theorem PhiR_succ (c : Dev nD) (t : Fin cfg0.N) : (dats m 0 c).Φ t.succ = PhiR m c (t.val + 1) := by
  dsimp only [dats]; simp only [Fin.val_succ]

/-- The body leaves input window 0's block as it was. -/
theorem after0_0 (c : Dev nD) (t : Fin cfg0.N) : (dats m 0 c).after 0 t = iblk m c 0 t := by dsimp only [dats]
/-- The body leaves input window 1's block as it was. -/
theorem after0_1 (c : Dev nD) (t : Fin cfg0.N) : (dats m 0 c).after 1 t = iblk m c 1 t := by dsimp only [dats]
/-- The body leaves input window 2's block as it was. -/
theorem after0_2 (c : Dev nD) (t : Fin cfg0.N) : (dats m 0 c).after 2 t = iblk m c 2 t := by dsimp only [dats]

/-- The body leaves the output window at the block of losses. -/
theorem after0_3 (c : Dev nD) (t : Fin cfg0.N) : (dats m 0 c).after 3 t = outBlk m c t := by dsimp only [dats]

/-- At every point input window 0's buffer holds its block. -/
theorem before0_0 (c : Dev nD) (t : Fin cfg0.N) (d) : (dats m 0 c).before 0 t d = iblk m c 0 t :=
  before0_0_of m (dats m 0 c) (A_eq m c 0) (after0_0 m c) t d
/-- At every point input window 1's buffer holds its block. -/
theorem before0_1 (c : Dev nD) (t : Fin cfg0.N) (d) : (dats m 0 c).before 1 t d = iblk m c 1 t :=
  before0_1_of m (dats m 0 c) (A_eq m c 1) (after0_1 m c) t d
/-- At every point input window 2's buffer holds its block. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 2400000 in
/-- The body at any point: from the invariant and the input blocks it leaves the invariant of the next point and the
    block of losses `outBlk`. Three cases: the first point, the points between, the last point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [after0_0, after0_1, after0_2, after0_3]
  rw [PhiR_castSucc m c t, PhiR_succ m c t]
  unfold Dat.owesAt Pipeline.owesWithin
  rw [show (dats m 0 c).owed t.castSucc = 0 from rfl, show (dats m 0 c).owed t.succ = 0 from rfl]
  unfold PhiR ringAt0_0
  have hgN : grid0.N = 64 := N_0
  have hN : t.val < 64 := lt_of_lt_of_eq t.isLt (show cfg0.N = 64 from N_0)
  by_cases h0 : t.val % 64 = 0
  · by_cases h1 : t.val < 63
    · by_cases h2 : t.val % 64 = 0
      · have ht : t = t0 := Fin.ext (show t.val = 0 by omega)
        have hr0 := rstep0_0_A t ((hcond0_0 t).mpr h0) ((hcond0_1 t).mpr h1) ((hcond0_2 t).mpr h2)
        obtain ⟨hK00, hK10⟩ := hr0
        rw [if_pos hK00, if_neg (show ¬t.val + 1 = 0 by omega)]
        rw [scrAt_pos m c (t.val + 1) (by omega), hK00, scrAt_zero m c, ← hK00]
        rw [Ring.At₀_eq2' _ _ _ t.val hK00 (by decide : 2 ≤ 64), Ring.AtK2_one' _ _ _ _ _ t.val hK00 (by decide : 1 < 64)]
        iintro ⟨⟨⟨HS1, HS2, HS3⟩, Hg, ⟨-, Hfr0_0_0, Hfr0_0_1⟩⟩, ⟨%W, -, HW⟩, ⟨%d0, H0⟩, ⟨%d1, H1⟩, ⟨%d2, H2⟩, ⟨%d3, H3⟩⟩
        iapply ((kernelRun0_A c t _ _ _ _ _ _ _ _ _ _ _ _ _ _ ((hcond0_0 t).mpr h0) ((hcond0_1 t).mpr h1) ((hcond0_2 t).mpr h2) (iblk m c 0 t) (iblk m c 1 t) (iblk m c 2 t) (V m c main_arg0)) W _)
        isplitl [H0]; · iexact H0
        isplitl [H1]; · iexact H1
        isplitl [H2]; · iexact H2
        isplitl [H3]; · iexists _; iexact H3
        isplitl [HS1]; · iexact HS1
        isplitl [HS2]; · iexact HS2
        isplitl [HS3]; · iexact HS3
        isplitl [Hfr0_0_0]; · iexact Hfr0_0_0
        isplitl [Hfr0_0_1]; · iexact Hfr0_0_1
        isplitl [HW]; · iexact HW
        rw [outBlk, ← ht]
        iintro ⟨H0, H1, H2, H3, HS1, HS2, HS3, Hfl0_0', Hkp0_0', ⟨%W', HW'⟩⟩
        isplitl [HS1 HS2 HS3 Hg Hfl0_0' Hkp0_0']
        · isplitl [HS1 HS2 HS3]
          · isplitl [HS1]; · iexact HS1
            isplitl [HS2]; · iexact HS2
            iexact HS3
          isplitl [Hg]; · iexact Hg
          iapply Ring.with_homes₀
          isplitl [Hfl0_0']; · iexact Hfl0_0'
          iexact Hkp0_0'
        isplitl [HW']
        · iexists W'; isplitr; · ipureintro; exact fun _ _ => Or.inl trivial
          iexact HW'
        isplitl [H0]; · iexact H0
        isplitl [H1]; · iexact H1
        isplitl [H2]; · iexact H2
        iexact H3
      · exfalso; omega
    · exfalso; omega
  · by_cases h1 : t.val < 63
    · by_cases h2 : t.val % 64 = 0
      · exfalso; omega
      · have hr0 := rstep0_0_B t (fun h => h0 ((hcond0_0 t).mp h)) ((hcond0_1 t).mpr h1) (fun h => h2 ((hcond0_2 t).mp h))
        obtain ⟨hK10, hKB0, hKs0⟩ := hr0
        rw [if_neg (show ¬t.val = 0 by omega), if_neg (show ¬t.val + 1 = 0 by omega)]
        rw [scrAt_pos m c (t.val + 1) (by omega), scrAt_pos m c t.val (by omega)]
        rw [Ring.AtK2_here _ _ _ _ _ t.val hK10 hKB0, Ring.AtK2_next _ _ _ _ _ t.val hK10 hKB0]
        iintro ⟨⟨⟨HS1, HS2, HS3⟩, Hg, ⟨-, Hfl0_0, Hkp0_0⟩⟩, ⟨%W, -, HW⟩, ⟨%d0, H0⟩, ⟨%d1, H1⟩, ⟨%d2, H2⟩, ⟨%d3, H3⟩⟩
        iapply ((kernelRun0_B c t _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (tabOf (iblk m c 2 t0)) (thetaOf (iblk m c 1 t0)) (constOf (iblk m c 1 t0)) (V m c main_arg0)) W _)
        isplitl [H0]; · iexact H0
        isplitl [H1]; · iexact H1
        isplitl [H2]; · iexact H2
        isplitl [H3]; · iexists _; iexact H3
        isplitl [HS1]; · iexact HS1
        isplitl [HS2]; · iexact HS2
        isplitl [HS3]; · iexact HS3
        isplitl [Hfl0_0]; · iexact Hfl0_0
        isplitl [Hkp0_0]; · iexact Hkp0_0
        isplitl [HW]; · iexact HW
        iintro ⟨H0, H1, H2, H3, HS1, HS2, HS3, Hfl0_0', Hkp0_0', ⟨%W', HW'⟩⟩
        isplitl [HS1 HS2 HS3 Hg Hfl0_0' Hkp0_0']
        · isplitl [HS1 HS2 HS3]
          · isplitl [HS1]; · iexact HS1
            isplitl [HS2]; · iexact HS2
            iexact HS3
          isplitl [Hg]; · iexact Hg
          iapply (Ring.with_homes (Idealize.SL.BI.Entails.refl _))
          isplitl [Hfl0_0']; · iexact Hfl0_0'
          iexact Hkp0_0'
        isplitl [HW']
        · iexists W'; isplitr; · ipureintro; exact fun _ _ => Or.inl trivial
          iexact HW'
        isplitl [H0]; · iexact H0
        isplitl [H1]; · iexact H1
        isplitl [H2]; · iexact H2
        iexact H3
    · by_cases h2 : t.val % 64 = 0
      · exfalso; omega
      · have hr0 := rstep0_0_C t (fun h => h0 ((hcond0_0 t).mp h)) (fun h => h1 ((hcond0_1 t).mp h)) (fun h => h2 ((hcond0_2 t).mp h))
        obtain ⟨hK10, hKB0, hKs0⟩ := hr0
        rw [if_neg (show ¬t.val = 0 by omega), if_neg (show ¬t.val + 1 = 0 by omega)]
        rw [scrAt_pos m c (t.val + 1) (by omega), scrAt_pos m c t.val (by omega)]
        rw [Ring.AtK2_here_last _ _ _ _ _ t.val hK10 hKB0, Ring.AtK2_next_last _ _ _ _ _ t.val hK10 hKB0]
        iintro ⟨⟨⟨HS1, HS2, HS3⟩, Hg, ⟨-, Hfl0_0, Hkp0_0⟩⟩, ⟨%W, -, HW⟩, ⟨%d0, H0⟩, ⟨%d1, H1⟩, ⟨%d2, H2⟩, ⟨%d3, H3⟩⟩
        iapply ((kernelRun0_C c t _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (tabOf (iblk m c 2 t0)) (thetaOf (iblk m c 1 t0)) (constOf (iblk m c 1 t0)) (V m c main_arg0)) W _)
        isplitl [H0]; · iexact H0
        isplitl [H1]; · iexact H1
        isplitl [H2]; · iexact H2
        isplitl [H3]; · iexists _; iexact H3
        isplitl [HS1]; · iexact HS1
        isplitl [HS2]; · iexact HS2
        isplitl [HS3]; · iexact HS3
        isplitl [Hfl0_0]; · iexact Hfl0_0
        isplitl [HW]; · iexact HW
        iintro ⟨H0, H1, H2, H3, HS1, HS2, HS3, Hkp0_0', ⟨%W', HW'⟩⟩
        isplitl [HS1 HS2 HS3 Hg Hkp0_0 Hkp0_0']
        · isplitl [HS1 HS2 HS3]
          · isplitl [HS1]; · iexact HS1
            isplitl [HS2]; · iexact HS2
            iexact HS3
          isplitl [Hg]; · iexact Hg
          iapply (Ring.with_homes (Idealize.SL.BI.Entails.refl _))
          isplitl [Hkp0_0]; · iexact Hkp0_0
          iexact Hkp0_0'
        isplitl [HW']
        · iexists W'; isplitr; · ipureintro; exact fun _ _ => Or.inl trivial
          iexact HW'
        isplitl [H0]; · iexact H0
        isplitl [H1]; · iexact H1
        isplitl [H2]; · iexact H2
        iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (the scratch, the register, the cells at zero, the HBM operands whole) is the
    invariant before the first point. -/
theorem hin (c : Dev nD) : Pipeline.ΦD osem0 spec0 H0 (V m) c ⊢ (dats m 0 c).Φ 0 := by
  rw [PhiD0_eq, show (dats m 0 c).Φ 0 = PhiR m c 0 from rfl]
  unfold PhiR
  rw [scrAt_zero]
  iintro ⟨⟨HR0_0, HS1, HS2, HS3⟩, Hg, ⟨Hq0, Hq1⟩, Hh0⟩
  isplitl [HS1 HS2 HS3]
  · isplitl [HS1]; · iexact HS1
    isplitl [HS2]; · iexact HS2
    iexact HS3
  isplitl [Hg]; · iexact Hg
  iapply (ring0_0_in (F := F) m c)
  isplitl [HR0_0]; · iexact HR0_0
  isplitl [Hq0 Hq1]
  · isplitl [Hq0]; · iexact Hq0
    iexact Hq1
  iexact Hh0
/-- After the last point the invariant hands back what the launch lent. -/
theorem hout (c : Dev nD) : (dats m 0 c).Φ (Fin.last cfg0.N) ⊢ Pipeline.ΦD osem0 spec0 H0 (V m) c := by
  rw [PhiD0_eq, show (dats m 0 c).Φ (Fin.last cfg0.N) = PhiR m c grid0.N from rfl]
  unfold PhiR
  rw [show grid0.N = 64 by rw [N_0]]
  rw [scrAt_pos m c 64 (by decide)]
  iintro ⟨⟨HS1, HS2, HS3⟩, Hg, HR0_0⟩
  ihave HX0_0 := (ring0_0_out (F := F) m c) $$ HR0_0
  icases HX0_0 with ⟨HR0_0, ⟨Hq0, Hq1⟩, Hh0⟩
  isplitl [HR0_0 HS1 HS2 HS3]
  · isplitl [HR0_0]; · iexact HR0_0
    isplitl [HS1]; · iexists _; iexact HS1
    isplitl [HS2]; · iexists _; iexact HS2
    iexists _; iexact HS3
  isplitl [Hg]
  · iexact Hg
  isplitl [Hq0 Hq1]
  · isplitl [Hq0]; · iexact Hq0
    iexact Hq1
  iexact Hh0

/-! ## The run -/

set_option backward.isDefEq.respectTransparency.types false in
set_option maxHeartbeats 800000 in
/-- Every run of the program ends, with the arrays of the windows at what the proof data says, every other buffer at
    what the host operations after the region leave, and every semaphore counter at zero. -/
theorem run_main : θ_run defs (onTc (τ := τ) (main (F := F))) (s₀ m ρ) (fun r => Pipeline.FramePost cfgs (dats m) (0 : Fin 1) (Pipeline.afterTail₀ cfgs (dats m) (0 : Fin 1) (V0 m) [hostOps1, hostOps1_1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1, hostOps1_1]) (hsub := sfx_but) (hfresh := sfx_fresh) (hkeep := sfx_keeps)
    (hmain := hmain m Variants.none) (hA := A_eq m) (hin := hin m) (hout := hout m) (hQ' := fun _ h => h)

end Cert.KernelIdeal.Gen

end
-- ==== Proof.Result.lean ====
/- What the arrays hold when the kernel with named constants has ended: result 1 at row `i` is lane `i mod 64` of the
   block of losses of grid point `i / 64`, results 2 and 3 are the constant zero; and what each block the body reads is
   in terms of the arguments. -/
module

public import proofs.«01_k».proof.Proof.Launch
public import Idealize.ShloMosaic.Lib.Pipeline.ValueKit
public import Idealize.ShloMosaic.Lib.Claim
public import Idealize.ShloMosaic.Lib.ValueLayout

@[expose] public section

set_option maxRecDepth 16384

noncomputable section

namespace Cert.KernelIdeal.Gen

open Idealize.ShloMosaic Idealize.ShloMosaic.TcCoe Idealize.SL Idealize.SL.Sem
open Idealize.ShloMosaic.Pipeline (Dat)

variable {F : FTy → Type} [FloatOps F] [Named F]
variable (m : (ℓ : Loc nD τ sig) → Buf (Elt F) ℓ) (ρ : Dev nD → PrngReg)

/-- The block index of every window at grid point `t`. -/
theorem idx : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

/-- The grid point whose block holds row `i`. -/
def ptOf (i : Fin 64) : Fin cfg0.N := ⟨i.val, by rw [show cfg0.N = 64 from N_0]; exact i.isLt⟩

/-- The array of losses as 64 blocks of 64: block `b` is what the body leaves at point `b`. -/
def outArr (c : Dev nD) : Vec F S64x1x64 .f32 := fun j => outBlk m c (ptOf (j 0)) (ix3 0 0 (j 2))

/-- The output window's array after the run. -/
theorem arr_out (c : Dev nD) : (dats m 0 c).arrAt 3 (cfgs 0).N = outArr m c := by
  refine (dats m 0 c).arrAt_eq_of_covers 3 _ (by decide +kernel) fun t _ y => ?_
  blk_simp
  rw [after0_3, outArr]
  have e : ptOf ((((cfg0.win 3).blk t).view.emb y) 0) = t := by
    refine Fin.ext ?_
    simp only [ptOf]
    blk_simp [idx t]
  rw [e]
  blk_ext [idx t]

/-- Result 1 after the run: the array of blocks, flattened. -/
theorem W_main_v0 (c : Dev nD) :
    Pipeline.afterTail₀ cfgs (dats m) 0 (V0 m) [hostOps1, hostOps1_1] c main_v0 = shapeCast S4096 (outArr m c) shapeCasts_S64x1x64_S4096 := by
  unfold Pipeline.afterTail₀
  simp only [hostOps1, hostOps1_1, List.flatten_cons, List.flatten_nil, List.append_nil, List.cons_append, List.nil_append]
  have e := Pipeline.withArrays_arr spec0 launch0.win.arr_inj c (V0 m c) (fun w => (dats m 0 c).arrAt w (cfgs 0).N) 3
  have e' : Pipeline.withArrays spec0 c (V0 m c) (fun w => (dats m 0 c).arrAt w (cfgs 0).N) (Proc.devRef .tc main_call0_v3) = outArr m c := e.trans (arr_out m c)
  generalize Pipeline.withArrays spec0 c (V0 m c) (fun w => (dats m 0 c).arrAt w (cfgs 0).N) = U at e' ⊢
  exact congrArg (fun z : Vec F S64x1x64 .f32 => shapeCast S4096 z shapeCasts_S64x1x64_S4096) e'

/-- Result 2 after the run: the constant zero. -/
theorem W_main_cst (c : Dev nD) :
    Pipeline.afterTail₀ cfgs (dats m) 0 (V0 m) [hostOps1, hostOps1_1] c main_cst = constant S_ .f32 0x00000000#32 := by
  unfold Pipeline.afterTail₀
  rfl

/-- Result 3 after the run: the constant zero. -/
theorem W_main_cst_0 (c : Dev nD) :
    Pipeline.afterTail₀ cfgs (dats m) 0 (V0 m) [hostOps1, hostOps1_1] c main_cst_0 = constant S_ .f32 0x00000000#32 := by
  unfold Pipeline.afterTail₀
  rfl

/-- The reshaped labels as the region finds them. -/
theorem V_labels (c : Dev nD) : V m c main_call0_v0 = shapeCast S64x1x64 (m ((c : Thread nD τ).loc main_arg1)) shapeCasts_S4096x1_S64x1x64 := by
  entry_read
  rfl

/-- The reshaped log-dispersions as the region finds them. -/
theorem V_px (c : Dev nD) : V m c main_call0_v1 = shapeCast S1x20000 (m ((c : Thread nD τ).loc main_arg3)) shapeCasts_S20000_S1x20000 := by
  entry_read
  rfl

/-- The transposed weights as the region finds them. -/
theorem V_w (c : Dev nD) : V m c main_call0_v2 = transpose S64x20000 [1, 0] (m ((c : Thread nD τ).loc main_arg4)) transposes_S20000x64_S64x20000_1_0 := by
  entry_read
  rfl

/-- The row of the labels' and counts' arrays that lane `l` of grid point `t` reads. -/
def rowOf (t : Fin cfg0.N) (l : Fin 64) : Fin 4096 :=
  ⟨64 * t.val + l.val, by have h := lt_of_lt_of_eq t.isLt (show cfg0.N = 64 from N_0); omega⟩

/-- A label of the block of point `t`, from the labels' array. -/
theorem iblk_labels (c : Dev nD) (t : Fin cfg0.N) (l : Fin 64) : (iblk m c 0 t : Vec F S1x1x64 .i32) (ix3 0 0 l)
    = (m ((c : Thread nD τ).loc main_arg1) : Vec F S4096x1 .i32) (ix2 (rowOf t l) 0) := by
  have e : ((cfg0.win 0).blk t).view.emb (ix3 0 0 l : S1x1x64.Idx) = (ix3 (⟨t.val, lt_of_lt_of_eq t.isLt (show cfg0.N = 64 from N_0)⟩ : Fin 64) 0 l : S64x1x64.Idx) := by blk_ext [idx t]
  refine (congrArg (V m c main_call0_v0) e).trans ?_
  rw [V_labels]
  refine shapeCast_apply _ _ _ _ ?_
  show (S4096x1.rowMajor (ix2 (rowOf t l) 0)).val = (S64x1x64.rowMajor (ix3 _ _ _)).val
  rw [Shape.rowMajor_val_two, Shape.rowMajor_val_three]
  show (64 * t.val + l.val) * 1 + 0 = (t.val * 1 + 0) * 64 + l.val
  omega

/-- Result 1 at the row of lane `l` of grid point `t`. -/
theorem out_row (c : Dev nD) (t : Fin cfg0.N) (l : Fin 64) :
    shapeCast S4096 (outArr m c) shapeCasts_S64x1x64_S4096 (ix1 (rowOf t l)) = outBlk m c t (ix3 0 0 l) := by
  refine (shapeCast_apply _ _ _ (ix3 (⟨t.val, lt_of_lt_of_eq t.isLt (show cfg0.N = 64 from N_0)⟩ : Fin 64) 0 l : S64x1x64.Idx) ?_).trans rfl
  rw [Shape.rowMajor_val_one, Shape.rowMajor_val_three]
  show (t.val * 1 + 0) * 64 + l.val = 64 * t.val + l.val
  omega

/-- Every row is the row of some lane of some grid point. -/
theorem rowOf_surj (j : S4096.Idx) : ∃ (t : Fin cfg0.N) (l : Fin 64), j = ix1 (rowOf t l) := by
  have h : (j 0).val < 4096 := (j 0).isLt
  refine ⟨ptOf ⟨(j 0).val / 64, by omega⟩, ⟨(j 0).val % 64, by omega⟩, funext fun a => ?_⟩
  have ha : a = 0 := Subsingleton.elim _ _
  subst ha
  refine Fin.ext ?_
  show (j 0).val = 64 * ((j 0).val / 64) + (j 0).val % 64
  omega

/-- The log-dispersions the body reads at any point. -/
theorem iblk_px (c : Dev nD) (t : Fin cfg0.N) (g : Fin 20000) : (iblk m c 1 t : Vec F S1x20000 .f32) (ix2 0 g)
    = (m ((c : Thread nD τ).loc main_arg3) : Vec F S20000 .f32) (ix1 g) := by
  have e : ((cfg0.win 1).blk t).view.emb (ix2 0 g : S1x20000.Idx) = (ix2 0 g : S1x20000.Idx) := by blk_ext [idx t]
  refine (congrArg (V m c main_call0_v1) e).trans ?_
  rw [V_px]
  exact ValueIdx.shapeCast_a_1a_apply _ _ _ _

/-- The transposed weights the body reads at any point. -/
theorem iblk_w (c : Dev nD) (t : Fin cfg0.N) (k : Fin 64) (g : Fin 20000) : (iblk m c 2 t : Vec F S64x20000 .f32) (ix2 k g)
    = (m ((c : Thread nD τ).loc main_arg4) : Vec F S20000x64 .f32) (ix2 g k) := by
  have e : ((cfg0.win 2).blk t).view.emb (ix2 k g : S64x20000.Idx) = (ix2 k g : S64x20000.Idx) := by blk_ext [idx t]
  refine (congrArg (V m c main_call0_v2) e).trans ?_
  rw [V_w]
  pointwise

/-- The load of the counts starts at the slot of the grid point's parity. -/
theorem off7 : ∀ t : Fin grid0.N, k0_off7 (grid0.coords t) = ![(Ring.sl 2 t.val).val, 0, 0] := by decide +kernel

/-- The counts the body loads at grid point `t` are the 64 rows of its block. -/
theorem xslot_at (c : Dev nD) (t : Fin cfg0.N) (W : HbBuf0 (F := F) c hbM0_0) (r : Fin 64) (g : Fin 20000) :
    xslot c t W (ix3 0 r g) = (W : Vec F S4096x20000 .f32) (ix2 (rowOf t r) g) := by
  have ht : t.val < 64 := lt_of_lt_of_eq t.isLt (show cfg0.N = 64 from N_0)
  have hw : (Rect.whole S64x20000).emb (ix2 r g : S64x20000.Idx) = (ix2 r g : S64x20000.Idx) := funext fun a => Fin.ext (by simp [Rect.whole, Rect.emb])
  have h := View.read_writes_cons_hit (Val := Elt F) (rslot0_0 (Ring.sl 2 t.val)).view (rslot0_0 (Ring.sl 2 t.val)).view.junk (Rect.whole S64x20000)
    (ReadAs.same.apply ((srcB0_0 (Ring.bk 64 t.val)).view.read (Elt F) W)) [] (ix2 r g : S64x20000.Idx) _ hw
  unfold xslot
  generalize (rslot0_0 (Ring.sl 2 t.val)).view.writes (Elt F) (rslot0_0 (Ring.sl 2 t.val)).view.junk
      [⟨Rect.whole S64x20000, ReadAs.same.apply ((srcB0_0 (Ring.bk 64 t.val)).view.read (Elt F) W)⟩] = f at h ⊢
  refine (Eq.trans ?_ h).trans ?_
  · refine Eq.trans ?_ (ValueIdx.shapeCast_1ab_ab_apply (View.readAt (Elt F) scM0_0.view (Rect.unit (s := S2x64x20000) ![(Ring.sl 2 t.val).val, 0, 0] S1x64x20000.size (inb_slot0_0 _)).toLoadRect f) (by decide) r g).symm
    refine congrArg (scM0_0.view.read (Elt F) f) (funext fun a => Fin.ext ?_)
    have e := congrFun (off7 t) a
    fin_cases a <;> simp_all [Rect.toLoadRect]
  · refine congrArg (W : Vec F S4096x20000 .f32) (funext fun a => Fin.ext ?_)
    have e := Ring.bk_val (NB := 64) ht
    fin_cases a
    · show 64 * (Ring.bk 64 t.val).val + 1 * r.val = 64 * t.val + r.val
      omega
    · show 0 + 1 * g.val = g.val
      omega

/-- The run of the whole program: its three results, its arguments unchanged, and every semaphore counter at zero. -/
theorem run : θ_run defs (onTc (τ := τ) (main (F := F))) ⟨m, fun _ => 0, ρ⟩ (fun r => (∀ c : Dev nD,
      (r.2.mem ((c.tc : Thread nD τ).loc main_v0) = shapeCast S4096 (outArr m c) shapeCasts_S64x1x64_S4096
      ∧ r.2.mem ((c.tc : Thread nD τ).loc main_cst) = constant S_ .f32 0x00000000#32
      ∧ r.2.mem ((c.tc : Thread nD τ).loc main_cst_0) = constant S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    have k := (h.1 c).2
    ⟨⟨(k main_v0 (by decide)).trans (W_main_v0 m c), (k main_cst (by decide)).trans (W_main_cst m c), (k main_cst_0 (by decide)).trans (W_main_cst_0 m c)⟩,
      (k main_arg0 (by decide)).trans (W_arg m (dats m) (by decide) c), (k main_arg1 (by decide)).trans (W_arg m (dats m) (by decide) c), (k main_arg2 (by decide)).trans (W_arg m (dats m) (by decide) c), (k main_arg3 (by decide)).trans (W_arg m (dats m) (by decide) c), (k main_arg4 (by decide)).trans (W_arg m (dats m) (by decide) c)⟩, h.2⟩) (run_main m ρ)

end Cert.KernelIdeal.Gen

end
-- ==== Proof.KernelFrame.lean ====
/- The frame of the kernel as it is spelt.  The kernel with named constants is proved over any reading of the names; read
   each name at the word that the kernel spells there, and the two programs are the same. -/
module

public import proofs.«01_k».proof.Defs
public import proofs.«01_k».proof.Proof.Gen.Kernel
public import proofs.«01_k».proof.Proof.Gen.KernelIdeal
public import proofs.«01_k».proof.Proof.Result

@[expose] public section

set_option maxRecDepth 100000

noncomputable section

namespace Cert.Kernel.Words

open Idealize.ShloMosaic Idealize.SL.Sem

variable {F : FTy → Type} [FloatOps F]

instance : Cert.Kernel.Facts := Cert.Kernel.Gen.facts
instance : Cert.KernelIdeal.Facts := Cert.KernelIdeal.Gen.facts

/-- Every name reads as the word that stands beside it. -/
abbrev words : Named F where
  named _ _ {φ} bits := Scalar.ofBits φ bits

/-- The two bodies are one. -/
theorem body_eq : Cert.Kernel.cc0__loss_kernel (F := F) = @Cert.KernelIdeal.cc0__loss_kernel F _ words _ := rfl

/-- The two body tables are one. -/
theorem table_eq : Cert.Kernel.defs₀ (F := F) = @Cert.KernelIdeal.defs₀ F _ words _ := by
  refine congrArg Defs.onTc (funext fun l => funext fun a => ?_)
  match l, a with
  | 0, (t, s) => rfl

/-- The kernel ends, with its arguments unchanged and every counter at zero. -/
theorem frame_kernel : Cert.quiescent_Kernel (hKernel := Cert.Kernel.Gen.facts) := fun m ρ _ => by
  have h := @Cert.KernelIdeal.Gen.run Bits _ words m ρ
  show θ_run (Pipeline.defs Cert.Kernel.pcfgs Cert.Kernel.defs₀) _ _ _
  rw [table_eq]
  exact (θ_run _ _ _).mono (fun _ h => ⟨fun c => (h.1 c).2, h.2⟩) h

end Cert.Kernel.Words

end
-- ==== Proof.Algebra.lean ====
/- The loss of one count over the real numbers: what the reference adds for one cell and one gene, what the kernel adds
   there, what the kernel sums once for all cells, and why the last two add up to the first. -/
module

public import Mathlib.Analysis.SpecialFunctions.Log.Basic
public import Mathlib.Tactic.FieldSimp
public import Mathlib.Tactic.Positivity
public import Mathlib.Tactic.Ring
public import Mathlib.Tactic.NormNum
public import Idealize.ShloMosaic.PureOps.Ideal

@[expose] public section

noncomputable section

namespace Cert.Loss

/-! ## The coefficients of Spouge's series, three terms and five -/

def c0 : ℝ := 10513561 / 4194304
def c1 : ℝ := 2739327 / 262144
def c2 : ℝ := -(2850325 / 1048576)
def d1 : ℝ := 14312577 / 131072
def d2 : ℝ := -(6839829 / 65536)
def d3 : ℝ := 2739327 / 131072
def d4 : ℝ := -(7600867 / 16777216)
/-- The small number added under the logarithms. -/
def eps : ℝ := 11258999 / 1125899906842624

theorem eps_pos : 0 < eps := by unfold eps; norm_num

/-! ## What the reference adds -/

/-- The series of three terms, and of five. -/
def ser3 (a : ℝ) : ℝ := c0 + c1 / (a + 0) + c2 / (a + 1)
def ser5 (a : ℝ) : ℝ := c0 + d1 / (a + 0) + d2 / (a + 1) + d3 / (a + 2) + d4 / (a + 3)

/-- The logarithm of the Gamma function by either. -/
def lgam3 (a : ℝ) : ℝ := (a - 1 / 2) * Real.log (a + 2) - (a + 2) + Real.log (ser3 a)
def lgam5 (a : ℝ) : ℝ := (a - 1 / 2) * Real.log (a + 4) - (a + 4) + Real.log (ser5 a)

/-- The log probability of a count `x` with mean `μ` and dispersion `θ`. -/
def entry (x μ θ : ℝ) : ℝ :=
  θ * (Real.log (θ + eps) - Real.log (θ + μ + eps)) + x * (Real.log (μ + eps) - Real.log (θ + μ + eps)) + lgam3 (x + θ)
    - lgam5 θ - lgam3 (x + 1)

/-! ## What the kernel adds -/

/-- The numerator and denominator at `x + θ`. -/
def p1 (a : ℝ) : ℝ := (c0 * a + (c0 + c1 + c2)) * a + c1
def q1 (a : ℝ) : ℝ := a * (a + 1)
/-- The numerator and denominator at `x + 1`, in powers of `x`. -/
def p2 (x : ℝ) : ℝ := (c0 * x + (3 * c0 + c1 + c2)) * x + (2 * c0 + 2 * c1 + c2)
def q2 (x : ℝ) : ℝ := (x + 3 / 2) * (x + 3 / 2) - 1 / 4
/-- The numerator and denominator at `θ` of the series of five terms. -/
def n5 (θ : ℝ) : ℝ :=
  (((c0 * θ + (6 * c0 + d1 + d2 + d3 + d4)) * θ + (11 * c0 + 6 * d1 + 5 * d2 + 4 * d3 + 3 * d4)) * θ
    + (6 * c0 + 11 * d1 + 6 * d2 + 3 * d3 + 2 * d4)) * θ + 6 * d1
def m5 (θ : ℝ) : ℝ := (((1 * θ + 6) * θ + 11) * θ + 6) * θ

/-- The denominators met on the way. -/
def tm (μ θ : ℝ) : ℝ := θ + eps + μ
def ww (x θ : ℝ) : ℝ := q1 (x + θ) * p2 x
def zz (x μ θ : ℝ) : ℝ := tm μ θ * (x + 3)
def rr (x μ θ : ℝ) : ℝ := 1 / (zz x μ θ * ww x θ)

/-- The arguments of the three logarithms. -/
def arg1 (x μ θ : ℝ) : ℝ := (x + (θ + 2)) * ((x + 3) * ww x θ) * rr x μ θ
def arg2 (x μ θ : ℝ) : ℝ := (μ + eps) * (tm μ θ * ww x θ) * rr x μ θ
def arg3 (x μ θ : ℝ) : ℝ := p1 (x + θ) * q2 x * zz x μ θ * rr x μ θ * (Real.sqrt ((x + (θ + 2)) * (x + 3)))⁻¹

/-- What the kernel adds for one count, and what it sums once for all cells. -/
def cell (x μ θ : ℝ) : ℝ :=
  (x + θ) * Real.log (arg1 x μ θ) + x * Real.log (arg2 x μ θ) + Real.log (arg3 x μ θ)
def shared (θ : ℝ) : ℝ :=
  θ * Real.log (θ + eps) - ((θ - 1 / 2) * Real.log (θ + 4) - (θ + 4) + Real.log (n5 θ / m5 θ)) - θ + 1

/-! ## Signs -/

variable {x μ θ : ℝ}

theorem p1_pos (h : 0 < x) : 0 < p1 x := by unfold p1 c0 c1 c2; norm_num; positivity
theorem p2_pos (h : 0 ≤ x) : 0 < p2 x := by unfold p2 c0 c1 c2; norm_num; positivity
theorem q1_pos (h : 0 < x) : 0 < q1 x := by unfold q1; positivity
theorem q2_eq (x : ℝ) : q2 x = (x + 1) * (x + 2) := by unfold q2; ring
theorem q2_pos (h : 0 ≤ x) : 0 < q2 x := by rw [q2_eq]; positivity
theorem n5_pos (h : 0 < θ) : 0 < n5 θ := by unfold n5 c0 d1 d2 d3 d4; norm_num; positivity
theorem m5_pos (h : 0 < θ) : 0 < m5 θ := by unfold m5; positivity
theorem tm_pos (h : 0 < θ) (hμ : 0 ≤ μ) : 0 < tm μ θ := by have := eps_pos; unfold tm; positivity
theorem ww_pos (hx : 0 ≤ x) (h : 0 < θ) : 0 < ww x θ := mul_pos (q1_pos (by positivity)) (p2_pos hx)
theorem zz_pos (hx : 0 ≤ x) (hμ : 0 ≤ μ) (h : 0 < θ) : 0 < zz x μ θ := mul_pos (tm_pos h hμ) (by positivity)
theorem rr_pos (hx : 0 ≤ x) (hμ : 0 ≤ μ) (h : 0 < θ) : 0 < rr x μ θ :=
  one_div_pos.2 (mul_pos (zz_pos hx hμ h) (ww_pos hx h))

theorem arg1_pos (hx : 0 ≤ x) (hμ : 0 ≤ μ) (h : 0 < θ) : 0 < arg1 x μ θ := by
  have := ww_pos hx h; have := rr_pos hx hμ h; unfold arg1; positivity
theorem arg2_pos (hx : 0 ≤ x) (hμ : 0 ≤ μ) (h : 0 < θ) : 0 < arg2 x μ θ := by
  have := ww_pos hx h; have := rr_pos hx hμ h; have := tm_pos h hμ; have := eps_pos; unfold arg2; positivity
theorem arg3_pos (hx : 0 ≤ x) (hμ : 0 ≤ μ) (h : 0 < θ) : 0 < arg3 x μ θ := by
  have := p1_pos (x := x + θ) (by positivity); have := q2_pos hx; have := zz_pos hx hμ h; have := rr_pos hx hμ h
  unfold arg3; positivity

/-! ## The series over one denominator -/

theorem ser3_left (h : 0 < x) : ser3 x = p1 x / q1 x := by
  unfold ser3 p1 q1; rw [add_zero]; field_simp; ring
theorem ser3_right (h : 0 ≤ x) : ser3 (x + 1) = p2 x / q2 x := by
  rw [q2_eq]; unfold ser3 p2; rw [add_zero]
  have : x + 1 + 1 = x + 2 := by ring
  rw [this]; field_simp; ring
theorem ser5_eq (h : 0 < θ) : ser5 θ = n5 θ / m5 θ := by
  have hm : m5 θ = θ * (θ + 1) * (θ + 2) * (θ + 3) := by unfold m5; ring
  rw [hm]; unfold ser5 n5; rw [add_zero]; field_simp; ring

theorem ser3_pos (h : 0 < x) : 0 < ser3 x := by rw [ser3_left h]; exact div_pos (p1_pos h) (q1_pos h)
theorem ser5_pos (h : 0 < θ) : 0 < ser5 θ := by rw [ser5_eq h]; exact div_pos (n5_pos h) (m5_pos h)

/-! ## The logarithms -/

theorem log_arg1 (hx : 0 ≤ x) (hμ : 0 ≤ μ) (h : 0 < θ) :
    Real.log (arg1 x μ θ) = Real.log (x + θ + 2) - Real.log (tm μ θ) := by
  have hw := ww_pos hx h; have ht := tm_pos h hμ; have h3 : 0 < x + 3 := by positivity
  have e : arg1 x μ θ = (x + θ + 2) / tm μ θ := by unfold arg1 rr zz; field_simp; ring
  rw [e, Real.log_div (by positivity) ht.ne']

theorem log_arg2 (hx : 0 ≤ x) (hμ : 0 ≤ μ) (h : 0 < θ) :
    Real.log (arg2 x μ θ) = Real.log (μ + eps) - Real.log (x + 3) := by
  have hw := ww_pos hx h; have ht := tm_pos h hμ; have h3 : 0 < x + 3 := by positivity
  have he := eps_pos
  have e : arg2 x μ θ = (μ + eps) / (x + 3) := by unfold arg2 rr zz; field_simp
  rw [e, Real.log_div (by positivity) h3.ne']

theorem log_arg3 (hx : 0 ≤ x) (hμ : 0 ≤ μ) (h : 0 < θ) :
    Real.log (arg3 x μ θ) = Real.log (ser3 (x + θ)) - Real.log (ser3 (x + 1))
      - 1 / 2 * (Real.log (x + θ + 2) + Real.log (x + 3)) := by
  have ha : 0 < x + θ := by positivity
  have hq := q1_pos ha; have hp := p2_pos hx; have hz := zz_pos hx hμ h
  have hp1 := p1_pos ha; have hq2 := q2_pos hx
  have h3 : 0 < x + 3 := by positivity
  have ht : 0 < x + θ + 2 := by positivity
  have hs : 0 < Real.sqrt ((x + θ + 2) * (x + 3)) := Real.sqrt_pos.2 (mul_pos ht h3)
  have e : arg3 x μ θ = p1 (x + θ) / q1 (x + θ) / (p2 x / q2 x) / Real.sqrt ((x + θ + 2) * (x + 3)) := by
    have : x + (θ + 2) = x + θ + 2 := by ring
    unfold arg3 rr ww; rw [this]; field_simp
  rw [e, Real.log_div (by positivity) hs.ne', Real.log_div (by positivity) (by positivity), ← ser3_left ha, ← ser3_right hx,
    Real.log_sqrt (by positivity), Real.log_mul ht.ne' h3.ne']
  ring

/-- The kernel's two sums are the reference's one. -/
theorem cell_add_shared (hx : 0 ≤ x) (hμ : 0 ≤ μ) (h : 0 < θ) : cell x μ θ + shared θ = entry x μ θ := by
  unfold cell shared entry lgam3 lgam5
  rw [log_arg1 hx hμ h, log_arg2 hx hμ h, log_arg3 hx hμ h, ← ser5_eq h]
  have e1 : θ + μ + eps = tm μ θ := by unfold tm; ring
  have e2 : x + 1 + 2 = x + 3 := by ring
  rw [e1, e2]; ring

end Cert.Loss

end
-- ==== Proof.Consts.lean ====
/- The numbers that the two programs spell, as extended reals. -/
module

public import proofs.«01_k».proof.KernelIdeal
public import proofs.«01_k».proof.Proof.Algebra
public import Idealize.ShloMosaic.PureOps.IdealRules

@[expose] public section

noncomputable section

namespace Cert.Loss

open Idealize.ShloMosaic

/-! ## Numbers spelt by their words -/

theorem word_zero : Ideal.ofBits .f32 0x00000000#32 = ((0 : ℝ) : EReal) := by simp [Ideal.ofBits, Ideal.ieee, -EReal.coe_mul]
theorem word_half : Ideal.ofBits .f32 0x3F000000#32 = ((1 / 2 : ℝ) : EReal) := by simp [Ideal.ofBits, Ideal.ieee, -EReal.coe_mul]; norm_num
theorem word_quarter : Ideal.ofBits .f32 0x3E800000#32 = ((1 / 4 : ℝ) : EReal) := by simp [Ideal.ofBits, Ideal.ieee, -EReal.coe_mul]; norm_num
theorem word_one : Ideal.ofBits .f32 0x3F800000#32 = ((1 : ℝ) : EReal) := by simp [Ideal.ofBits, Ideal.ieee, -EReal.coe_mul]; norm_num
theorem word_three_halves : Ideal.ofBits .f32 0x3FC00000#32 = ((3 / 2 : ℝ) : EReal) := by simp [Ideal.ofBits, Ideal.ieee, -EReal.coe_mul]; norm_num
theorem word_two : Ideal.ofBits .f32 0x40000000#32 = ((2 : ℝ) : EReal) := by simp [Ideal.ofBits, Ideal.ieee, -EReal.coe_mul]; norm_num
theorem word_three : Ideal.ofBits .f32 0x40400000#32 = ((3 : ℝ) : EReal) := by simp [Ideal.ofBits, Ideal.ieee, -EReal.coe_mul]; norm_num
theorem word_four : Ideal.ofBits .f32 0x40800000#32 = ((4 : ℝ) : EReal) := by simp [Ideal.ofBits, Ideal.ieee, -EReal.coe_mul]; norm_num
theorem word_six : Ideal.ofBits .f32 0x40C00000#32 = ((6 : ℝ) : EReal) := by simp [Ideal.ofBits, Ideal.ieee, -EReal.coe_mul]; norm_num
theorem word_eleven : Ideal.ofBits .f32 0x41300000#32 = ((11 : ℝ) : EReal) := by simp [Ideal.ofBits, Ideal.ieee, -EReal.coe_mul]; norm_num
theorem word_eps : Ideal.ofBits .f32 0x322BCC77#32 = ((eps : ℝ) : EReal) := by unfold eps; simp [Ideal.ofBits, Ideal.ieee, -EReal.coe_mul]; norm_num
theorem word_c0 : Ideal.ofBits .f32 0x40206C99#32 = ((c0 : ℝ) : EReal) := by unfold c0; simp [Ideal.ofBits, Ideal.ieee, -EReal.coe_mul]; norm_num
theorem word_c1 : Ideal.ofBits .f32 0x412731FC#32 = ((c1 : ℝ) : EReal) := by unfold c1; simp [Ideal.ofBits, Ideal.ieee, -EReal.coe_mul]; norm_num
theorem word_c2 : Ideal.ofBits .f32 0xC02DF854#32 = ((c2 : ℝ) : EReal) := by unfold c2; simp [Ideal.ofBits, Ideal.ieee, -EReal.coe_mul, -EReal.coe_neg]; norm_num
theorem word_d1 : Ideal.ofBits .f32 0x42DA6481#32 = ((d1 : ℝ) : EReal) := by unfold d1; simp [Ideal.ofBits, Ideal.ieee, -EReal.coe_mul]; norm_num
theorem word_d2 : Ideal.ofBits .f32 0xC2D0BC2A#32 = ((d2 : ℝ) : EReal) := by unfold d2; simp [Ideal.ofBits, Ideal.ieee, -EReal.coe_mul, -EReal.coe_neg]; norm_num
theorem word_d3 : Ideal.ofBits .f32 0x41A731FC#32 = ((d3 : ℝ) : EReal) := by unfold d3; simp [Ideal.ofBits, Ideal.ieee, -EReal.coe_mul]; norm_num
theorem word_d4 : Ideal.ofBits .f32 0xBEE7F5C6#32 = ((d4 : ℝ) : EReal) := by unfold d4; simp [Ideal.ofBits, Ideal.ieee, -EReal.coe_mul, -EReal.coe_neg]; norm_num

/-! ## Numbers spelt by their names -/

section named
open Cert.KernelIdeal (κ)

theorem name_p1 : Named.named (F := Ideal) κ "p1" (φ := .f32) 0x4123CF0D#32 = ((c0 + c1 + c2 : ℝ) : EReal) :=
  (IdealRules.named_const.ideal_named_scalar _ _ _ _ rfl).trans (congrArg _ (by unfold c0 c1 c2; norm_num))
theorem name_ps1 : Named.named (F := Ideal) κ "ps1" (φ := .f32) 0x4174055A#32 = ((3 * c0 + c1 + c2 : ℝ) : EReal) :=
  (IdealRules.named_const.ideal_named_scalar _ _ _ _ rfl).trans (congrArg _ (by unfold c0 c1 c2; norm_num))
theorem name_ps0 : Named.named (F := Ideal) κ "ps0" (φ := .f32) 0x41B98E18#32 = ((2 * c0 + 2 * c1 + c2 : ℝ) : EReal) :=
  (IdealRules.named_const.ideal_named_scalar _ _ _ _ rfl).trans (congrArg _ (by unfold c0 c1 c2; norm_num))
theorem name_n3 : Named.named (F := Ideal) κ "n3" (φ := .f32) 0x4221427A#32 = ((6 * c0 + d1 + d2 + d3 + d4 : ℝ) : EReal) :=
  (IdealRules.named_const.ideal_named_scalar _ _ _ _ rfl).trans (congrArg _ (by unfold c0 d1 d2 d3 d4; norm_num))
theorem name_n2 : Named.named (F := Ideal) κ "n2" (φ := .f32) 0x437326D2#32
    = ((11 * c0 + 6 * d1 + 5 * d2 + 4 * d3 + 3 * d4 : ℝ) : EReal) :=
  (IdealRules.named_const.ideal_named_scalar _ _ _ _ rfl).trans (congrArg _ (by unfold c0 d1 d2 d3 d4; norm_num))
theorem name_n1 : Named.named (F := Ideal) κ "n1" (φ := .f32) 0x4422F250#32
    = ((6 * c0 + 11 * d1 + 6 * d2 + 3 * d3 + 2 * d4 : ℝ) : EReal) :=
  (IdealRules.named_const.ideal_named_scalar _ _ _ _ rfl).trans (congrArg _ (by unfold c0 d1 d2 d3 d4; norm_num))
theorem name_n0 : Named.named (F := Ideal) κ "n0" (φ := .f32) 0x4423CB61#32 = ((6 * d1 : ℝ) : EReal) :=
  (IdealRules.named_const.ideal_named_scalar _ _ _ _ rfl).trans (congrArg _ (by unfold d1; norm_num))

end named

/-! ## Finite values stay finite -/

/-- The logarithm of a positive number. -/
theorem log_pos_coe {r : ℝ} (h : 0 < r) : Ideal.log (r : EReal) = ((Real.log r : ℝ) : EReal) := by
  rw [Ideal.log_coe, if_neg (not_le.2 h)]

/-- The quotient by a number that is not zero. -/
theorem div_coe_coe (a : ℝ) {b : ℝ} (h : b ≠ 0) : Ideal.div (a : EReal) (b : EReal) = ((a / b : ℝ) : EReal) := by
  rw [Ideal.div_coe h, ← EReal.coe_mul, mul_one_div]

/-- The reciprocal square root of a positive number. -/
theorem rsqrt_pos_coe {r : ℝ} (h : 0 < r) : Ideal.rsqrt (r : EReal) = (((Real.sqrt r)⁻¹ : ℝ) : EReal) := by
  rw [Ideal.rsqrt_coe, if_neg (not_lt.2 h.le), if_neg h.ne']

/-- The greater of two numbers. -/
theorem coe_max (a b : ℝ) : ((max a b : ℝ) : EReal) = max (a : EReal) (b : EReal) := EReal.coe_strictMono.monotone.map_max

/-- A sum of numbers is the number that is their sum. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Loss

end
-- ==== Proof.Softplus.lean ====
/- The softplus of an extended real, as both programs spell it, and what the kernel's table of three layers holds: the first
   layer is the softplus of the weights and the other two are what rounding would have left over. -/
module

public import proofs.«01_k».proof.Proof.Blocks
public import proofs.«01_k».proof.Proof.Consts
public import Idealize.ShloMosaic.Lib.Pointwise
public import Idealize.ShloMosaic.Lib.Pipeline.CanonAppend

@[expose] public section

set_option maxRecDepth 16384

noncomputable section

namespace Cert.Loss

open Idealize.ShloMosaic

/-- The softplus of a number. -/
def softplus (w : ℝ) : ℝ := max w 0 + Real.log (1 + Real.exp (-|w|))

theorem softplus_nonneg (w : ℝ) : 0 ≤ softplus w :=
  add_nonneg (le_max_right _ _) (Real.log_nonneg (by have := Real.exp_pos (-|w|); linarith))

/-- The softplus as it is spelt. -/
def soft (w : EReal) : EReal := max w 0 + Ideal.log1p (Ideal.exp (-FloatOps.absf (F := Ideal) (φ := .f32) w))

/-- At a number it is one. -/
theorem soft_coe (w : ℝ) : soft (w : EReal) = ((softplus w : ℝ) : EReal) := by
  have h : FloatOps.absf (F := Ideal) (φ := .f32) (w : EReal) = ((|w| : ℝ) : EReal) := by
    show max (w : EReal) (-w) = _
    rw [← EReal.coe_neg, ← coe_max]; rfl
  have hp : 0 < 1 + Real.exp (-|w|) := by have := Real.exp_pos (-|w|); linarith
  rw [soft, h, ← EReal.coe_neg, Ideal.exp_coe, Ideal.log1p, ← EReal.coe_one, ← EReal.coe_add, log_pos_coe hp, ← EReal.coe_zero,
    ← coe_max, ← EReal.coe_add]
  rfl

/-- Away from a number: nothing of the infinity cancels. -/
theorem soft_end (z : EReal) : z + Ideal.log1p (Ideal.exp (-⊤)) = z := by
  rw [EReal.neg_top, Ideal.exp_bot, Ideal.log1p, add_zero, ← EReal.coe_one, log_pos_coe one_pos, Real.log_one, EReal.coe_zero, add_zero]
theorem soft_top : soft ⊤ = ⊤ := by
  have h : FloatOps.absf (F := Ideal) (φ := .f32) ⊤ = ⊤ := max_eq_left le_top
  rw [soft, h, soft_end]; exact max_eq_left le_top
theorem soft_bot : soft ⊥ = 0 := by
  have h : FloatOps.absf (F := Ideal) (φ := .f32) ⊥ = ⊤ := max_eq_right (by rw [EReal.neg_bot]; exact bot_le)
  rw [soft, h, soft_end]; exact max_eq_right bot_le

/-- A softplus is infinite, or a number that is not negative. -/
theorem soft_cases (w : EReal) : soft w = ⊤ ∨ ∃ s : ℝ, 0 ≤ s ∧ soft w = (s : EReal) := by
  induction w with
  | bot => exact Or.inr ⟨0, le_rfl, soft_bot⟩
  | coe w => exact Or.inr ⟨_, softplus_nonneg w, soft_coe w⟩
  | top => exact Or.inl soft_top

/-- The three layers that the kernel makes of a value, added up. -/
def layers (s : EReal) : EReal := s + (s - s) + (s - s - (s - s))

theorem layers_coe (s : ℝ) : layers (s : EReal) = (s : EReal) := by
  unfold layers
  simp only [← EReal.coe_sub, ← EReal.coe_add, sub_self, add_zero]
theorem layers_top : layers ⊤ = ⊥ := by
  unfold layers
  simp [sub_eq_add_neg]

end Cert.Loss

namespace Cert.KernelIdeal.Gen

open Idealize.ShloMosaic Idealize.ShloMosaic.TcCoe Cert.Loss

variable (x2 : Vec Ideal S64x20000 .f32)

/-- The softplus of the weights. -/
theorem pay2_at (k : Fin 64) (g : Fin 20000) : k0_pay2 x2 (ix2 k g) = soft (x2 (ix2 k g)) := by
  pointwise [k0_pay2]
  rw [if_neg (by simp), zero_sub]
  rfl

theorem pay6_at (k : Fin 64) (g : Fin 20000) : k0_pay6 x2 (ix2 k g) = soft (x2 (ix2 k g)) := by
  rw [← pay2_at]; pointwise [k0_pay6, k0_pay3]

theorem pay4_at (k : Fin 64) (g : Fin 20000) : k0_pay4 x2 (ix2 k g) = soft (x2 (ix2 k g)) - soft (x2 (ix2 k g)) := by
  pointwise [k0_pay4, k0_pay3]
  rw [pay2_at]

theorem pay7_at (k : Fin 64) (g : Fin 20000) : k0_pay7 x2 (ix2 k g) = soft (x2 (ix2 k g)) - soft (x2 (ix2 k g)) := by
  rw [← pay4_at]; pointwise [k0_pay7, k0_pay5]

theorem pay8_at (k : Fin 64) (g : Fin 20000) : k0_pay8 x2 (ix2 k g)
    = soft (x2 (ix2 k g)) - soft (x2 (ix2 k g)) - (soft (x2 (ix2 k g)) - soft (x2 (ix2 k g))) := by
  pointwise [k0_pay8, k0_pay5]
  rw [pay4_at]

/-- The table at row `j`: the layer that `j` lies in, of the weights of label `j` modulo 64. -/
theorem tab_at (j : Fin 192) (g : Fin 20000) :
    tabOf x2 (ix2 j g) = if j.val < 64 then soft (x2 (ix2 (Fin.ofNat 64 j.val) g))
      else if j.val < 128 then soft (x2 (ix2 (Fin.ofNat 64 j.val) g)) - soft (x2 (ix2 (Fin.ofNat 64 j.val) g))
      else soft (x2 (ix2 (Fin.ofNat 64 j.val) g)) - soft (x2 (ix2 (Fin.ofNat 64 j.val) g))
        - (soft (x2 (ix2 (Fin.ofNat 64 j.val) g)) - soft (x2 (ix2 (Fin.ofNat 64 j.val) g))) := by
  let s : S192x20000.Idx → EReal := fun y => soft (x2 (ix2 (Fin.ofNat 64 (y 0).val) ⟨(y 1).val, (y 1).isLt⟩))
  let G : S192x20000.Idx → Elt Ideal .bf16 :=
    fun y => if (y 0).val < 64 then s y else if (y 0).val < 128 then s y - s y else s y - s y - (s y - s y)
  have key := View.canon_append_of_pieces G [] _ (?_) (ix2 j g) (tab_cover (k0_pay8 x2) (k0_pay7 x2) (k0_pay6 x2) (ix2 j g))
  · rw [List.append_nil] at key
    exact key
  · have row : ∀ (o : Nat) (k : Fin 64) (g : Fin 20000) (y : S192x20000.Idx), (y 0).val = o + 1 * k.val → (y 1).val = 0 + 1 * g.val →
        o % 64 = 0 → s y = soft (x2 (ix2 k g)) := by
      intro o k g y h0 h1 ho
      refine congrArg (fun z => soft (x2 z)) (congrArg₂ ix2 (Fin.ext ?_) (Fin.ext ?_))
      · show (y 0).val % 64 = k.val
        have := k.isLt
        omega
      · show (y 1).val = g.val
        omega
    intro p hp x
    simp only [List.mem_cons, List.not_mem_nil, or_false] at hp
    obtain rfl | rfl | rfl := hp
    · obtain ⟨k, g, rfl⟩ : ∃ k g, x = ix2 k g := ⟨_, _, ValueIdx.eq_ix2 x⟩
      refine (pay8_at x2 k g).trans (Eq.symm ((if_neg ?_).trans ((if_neg ?_).trans ?_)))
      · show ¬ (128 + 1 * k.val) < 64
        omega
      · show ¬ (128 + 1 * k.val) < 128
        omega
      · exact congrArg (fun z : EReal => z - z - (z - z)) (row 128 k g _ rfl rfl rfl)
    · obtain ⟨k, g, rfl⟩ : ∃ k g, x = ix2 k g := ⟨_, _, ValueIdx.eq_ix2 x⟩
      refine (pay7_at x2 k g).trans (Eq.symm ((if_neg ?_).trans ((if_pos ?_).trans ?_)))
      · show ¬ (64 + 1 * k.val) < 64
        omega
      · show (64 + 1 * k.val) < 128
        have := k.isLt
        omega
      · exact congrArg (fun z : EReal => z - z) (row 64 k g _ rfl rfl rfl)
    · obtain ⟨k, g, rfl⟩ : ∃ k g, x = ix2 k g := ⟨_, _, ValueIdx.eq_ix2 x⟩
      refine (pay6_at x2 k g).trans (Eq.symm ((if_pos ?_).trans ?_))
      · show 0 + 1 * k.val < 64
        have := k.isLt
        omega
      · refine row 0 k g _ ?_ ?_ ?_ <;> rfl

end Cert.KernelIdeal.Gen

end
-- ==== Proof.Pick.lean ====
/- What the kernel's product of the labels' indicator with the table leaves: at a cell whose label is `k`, the three layers of
   row `k` of the softplus of the weights, added up. -/
module

public import proofs.«01_k».proof.Proof.Softplus

@[expose] public section

set_option maxRecDepth 16384

noncomputable section

namespace Cert.KernelIdeal.Gen

open Idealize.ShloMosaic Idealize.ShloMosaic.TcCoe Cert.Loss

/-- A column's number modulo 64, as the kernel takes it. -/
def fold64 (j : BitVec 32) : BitVec 32 :=
  Scalar.select (IntOp.andi (IntOp.xori (IntOp.cmpi .slt (IntOp.remsi .vector j 64#32) 0#32) (Scalar.cmpi .slt 64#32 0#32))
    (IntOp.cmpi .ne (IntOp.remsi .vector j 64#32) 0#32)) (IntOp.addi (IntOp.remsi .vector j 64#32) 64#32) (IntOp.remsi .vector j 64#32)

/-- The indicator's word at a column. -/
theorem indicator_word : ∀ (k : Fin 64) (j : Fin 192),
    BitVec.setWidth 32 (IntOp.cmpi .eq (BitVec.ofNat 32 k.val) (fold64 (BitVec.ofNat 32 j.val)))
    = if j.val % 64 = k.val then 1#32 else 0#32 := by decide +kernel

theorem sitofp_one : FloatOps.sitofp (F := Ideal) .f32 (1#32) = (1 : EReal) := by
  show (((1#32 : BitVec 32).toInt : ℝ) : EReal) = 1
  simp
theorem sitofp_zero : FloatOps.sitofp (F := Ideal) .f32 (0#32) = (0 : EReal) := by
  show (((0#32 : BitVec 32).toInt : ℝ) : EReal) = 0
  simp

/-- A sum of three layers, of which the indicator leaves one column each. -/
theorem sum_layers (f : Fin 192 → EReal) (k : Fin 64) :
    (∑ j : Fin 192, (if j.val % 64 = k.val then 1 else 0) * f j)
      = f ⟨k.val, by omega⟩ + f ⟨64 + k.val, by omega⟩ + f ⟨128 + k.val, by omega⟩ := by
  have e : ∀ j : Fin 192, (if j.val % 64 = k.val then (1 : EReal) else 0) * f j
      = (if (⟨k.val, by omega⟩ : Fin 192) = j then f j else 0) + (if (⟨64 + k.val, by omega⟩ : Fin 192) = j then f j else 0)
        + (if (⟨128 + k.val, by omega⟩ : Fin 192) = j then f j else 0) := by
    intro j
    simp only [Fin.ext_iff]
    have := j.isLt
    have := k.isLt
    by_cases h : j.val % 64 = k.val
    · rw [if_pos h, one_mul]
      have h3 : k.val = j.val ∨ 64 + k.val = j.val ∨ 128 + k.val = j.val := by omega
      rcases h3 with h | h | h
      · rw [if_pos h, if_neg (by omega), if_neg (by omega), add_zero, add_zero]
      · rw [if_neg (by omega), if_pos h, if_neg (by omega), zero_add, add_zero]
      · rw [if_neg (by omega), if_neg (by omega), if_pos h, zero_add, zero_add]
    · rw [if_neg h, zero_mul, if_neg (by omega), if_neg (by omega), if_neg (by omega), add_zero, add_zero]
  simp only [e, Finset.sum_add_distrib, Finset.sum_ite_eq, Finset.mem_univ, if_true]

/-- The product at a cell labelled `k`. -/
theorem pay14_at (x2 : Vec Ideal S64x20000 .f32) (x0 : Vec Ideal S1x1x64 .i32) (l k : Fin 64)
    (hk : x0 (ix3 0 0 l) = BitVec.ofNat 32 k.val) (g : Fin 20000) :
    k0_pay14 x0 (tabOf x2) (ix2 l g) = layers (soft (x2 (ix2 k g))) := by
  have e : Scalar.select (Scalar.cmpi .eq 64#32 0#32) 1#32 64#32 = 64#32 := by decide
  have hs : ∀ o : Nat, o % 64 = 0 → Fin.ofNat 64 (o + k.val) = k := by
    intro o ho
    refine Fin.ext ?_
    show (o + k.val) % 64 = k.val
    have := k.isLt
    omega
  pointwise [k0_pay14]
  simp only [e, hk]
  refine (Finset.sum_congr rfl fun j _ => ?_).trans ((sum_layers (fun j => tabOf x2 (ix2 j g)) k).trans ?_)
  · refine (congrArg (fun z => FloatOps.sitofp (F := Ideal) .f32 z * _) (indicator_word k j)).trans ?_
    by_cases h : j.val % 64 = k.val
    · rw [if_pos h, if_pos h, sitofp_one]
    · rw [if_neg h, if_neg h, sitofp_zero]
  · have := k.isLt
    have h0 := hs 0 rfl
    rw [Nat.zero_add] at h0
    simp only [tab_at]
    rw [if_pos (by omega), if_neg (by omega), if_pos (by omega), if_neg (by omega), if_neg (by omega), h0, hs 64 rfl, hs 128 rfl]
    rfl

end Cert.KernelIdeal.Gen

end
-- ==== Proof.Corners.lean ====
/- The losses of both programs over the extended reals: the formulas as they are spelt, that they are those of `Algebra` at
   numbers, what they leave at the infinities, and that over a whole row of counts the two agree. -/
module

public import proofs.«01_k».proof.Proof.Softplus

@[expose] public section

noncomputable section

namespace Cert.Loss

open Idealize.ShloMosaic

/-! ## The formulas -/

/-- What the kernel adds for a count `x` with mean `μ` and dispersion `θ`. -/
def tmE (μ θ : EReal) : EReal := θ + (eps : ℝ) + μ
def wwE (x θ : EReal) : EReal :=
  (x + θ) * (x + θ + 1) * (((c0 : ℝ) * x + (3 * c0 + c1 + c2 : ℝ)) * x + (2 * c0 + 2 * c1 + c2 : ℝ))
def zzE (x μ θ : EReal) : EReal := tmE μ θ * (x + (3 : ℝ))
def rrE (x μ θ : EReal) : EReal := Ideal.div 1 (zzE x μ θ * wwE x θ)
def arg1E (x μ θ : EReal) : EReal := (x + (θ + (2 : ℝ))) * ((x + (3 : ℝ)) * wwE x θ) * rrE x μ θ
def arg2E (x μ θ : EReal) : EReal := (μ + (eps : ℝ)) * (tmE μ θ * wwE x θ) * rrE x μ θ
def numE (x θ : EReal) : EReal :=
  (((c0 : ℝ) * (x + θ) + (c0 + c1 + c2 : ℝ)) * (x + θ) + (c1 : ℝ)) * ((x + (3 / 2 : ℝ)) * (x + (3 / 2 : ℝ)) - (1 / 4 : ℝ))
def arg3E (x μ θ : EReal) : EReal := numE x θ * zzE x μ θ * rrE x μ θ * Ideal.rsqrt ((x + (θ + (2 : ℝ))) * (x + (3 : ℝ)))
def cellE (x μ θ : EReal) : EReal :=
  (x + θ) * Ideal.log (arg1E x μ θ) + x * Ideal.log (arg2E x μ θ) + Ideal.log (arg3E x μ θ)

/-- What the kernel sums once for all cells. -/
def n5E (θ : EReal) : EReal :=
  ((((c0 : ℝ) * θ + (6 * c0 + d1 + d2 + d3 + d4 : ℝ)) * θ + (11 * c0 + 6 * d1 + 5 * d2 + 4 * d3 + 3 * d4 : ℝ)) * θ
    + (6 * c0 + 11 * d1 + 6 * d2 + 3 * d3 + 2 * d4 : ℝ)) * θ + (6 * d1 : ℝ)
def m5E (θ : EReal) : EReal := (((θ + (6 : ℝ)) * θ + (11 : ℝ)) * θ + (6 : ℝ)) * θ
def sharedE (θ : EReal) : EReal :=
  θ * Ideal.log (θ + (eps : ℝ)) - ((θ - (1 / 2 : ℝ)) * Ideal.log (θ + (4 : ℝ)) - (θ + (4 : ℝ)) + Ideal.log (Ideal.div (n5E θ) (m5E θ)))
    - θ + 1

/-- What the reference adds. -/
def ser3E (a : EReal) : EReal := (c0 : ℝ) + Ideal.div (c1 : ℝ) a + Ideal.div (c2 : ℝ) (a + 1)
def ser5E (a : EReal) : EReal := (c0 : ℝ) + Ideal.div (d1 : ℝ) a + Ideal.div (d2 : ℝ) (a + 1) + Ideal.div (d3 : ℝ) (a + (2 : ℝ))
  + Ideal.div (d4 : ℝ) (a + (3 : ℝ))
def lgam3E (a : EReal) : EReal := (a - (1 / 2 : ℝ)) * Ideal.log (a + (2 : ℝ)) - (a + (2 : ℝ)) + Ideal.log (ser3E a)
def lgam5E (a : EReal) : EReal := (a - (1 / 2 : ℝ)) * Ideal.log (a + (4 : ℝ)) - (a + (4 : ℝ)) + Ideal.log (ser5E a)
def entryE (x μ θ : EReal) : EReal :=
  θ * (Ideal.log (θ + (eps : ℝ)) - Ideal.log (θ + μ + (eps : ℝ))) + x * (Ideal.log (μ + (eps : ℝ)) - Ideal.log (θ + μ + (eps : ℝ)))
    + lgam3E (x + θ) - lgam5E θ - lgam3E (x + 1)

/-! ## At numbers -/

section numbers
variable {x μ θ : ℝ}

theorem tmE_coe : tmE μ θ = ((tm μ θ : ℝ) : EReal) := by simp only [tmE, ← EReal.coe_add]; rfl
theorem wwE_coe : wwE x θ = ((ww x θ : ℝ) : EReal) := by
  unfold wwE
  rw [← EReal.coe_one]
  simp only [← EReal.coe_add, ← EReal.coe_mul]
  rfl
theorem zzE_coe : zzE x μ θ = ((zz x μ θ : ℝ) : EReal) := by
  rw [zzE, tmE_coe, ← EReal.coe_add, ← EReal.coe_mul]; rfl

theorem rrE_coe (hx : 0 ≤ x) (hμ : 0 ≤ μ) (h : 0 < θ) : rrE x μ θ = ((rr x μ θ : ℝ) : EReal) := by
  rw [rrE, zzE_coe, wwE_coe, ← EReal.coe_mul, ← EReal.coe_one, div_coe_coe _ (mul_pos (zz_pos hx hμ h) (ww_pos hx h)).ne']
  rfl

theorem cellE_coe (hx : 0 ≤ x) (hμ : 0 ≤ μ) (h : 0 < θ) : cellE x μ θ = ((cell x μ θ : ℝ) : EReal) := by
  have e1 : arg1E x μ θ = ((arg1 x μ θ : ℝ) : EReal) := by
    rw [arg1E, wwE_coe, rrE_coe hx hμ h]
    simp only [← EReal.coe_add, ← EReal.coe_mul]
    rfl
  have e2 : arg2E x μ θ = ((arg2 x μ θ : ℝ) : EReal) := by
    rw [arg2E, tmE_coe, wwE_coe, rrE_coe hx hμ h]
    simp only [← EReal.coe_add, ← EReal.coe_mul]
    rfl
  have e3 : arg3E x μ θ = ((arg3 x μ θ : ℝ) : EReal) := by
    have h' : 0 < (x + (θ + 2)) * (x + 3) := by positivity
    rw [arg3E, zzE_coe, rrE_coe hx hμ h, numE]
    simp only [← EReal.coe_add, ← EReal.coe_mul, ← EReal.coe_sub]
    rw [rsqrt_pos_coe h', ← EReal.coe_mul]
    rfl
  rw [cellE, e1, e2, e3, log_pos_coe (arg1_pos hx hμ h), log_pos_coe (arg2_pos hx hμ h), log_pos_coe (arg3_pos hx hμ h)]
  simp only [← EReal.coe_add, ← EReal.coe_mul]
  rfl

theorem sharedE_coe (h : 0 < θ) : sharedE θ = ((shared θ : ℝ) : EReal) := by
  have he := eps_pos
  have h1 : 0 < θ + eps := by linarith
  have h4 : 0 < θ + 4 := by linarith
  have en : n5E θ = ((n5 θ : ℝ) : EReal) := by simp only [n5E, ← EReal.coe_add, ← EReal.coe_mul]; rfl
  have em : m5E θ = ((m5 θ : ℝ) : EReal) := by
    simp only [m5E, ← EReal.coe_add, ← EReal.coe_mul]; exact congrArg _ (by unfold m5; ring)
  rw [sharedE, en, em, div_coe_coe _ (m5_pos h).ne', log_pos_coe (div_pos (n5_pos h) (m5_pos h)), ← EReal.coe_one,
    ← EReal.coe_add θ 4, ← EReal.coe_add θ eps, log_pos_coe h4, log_pos_coe h1]
  simp only [← EReal.coe_add, ← EReal.coe_mul, ← EReal.coe_sub]
  rfl

theorem lgam3E_coe (h : 0 < x) : lgam3E x = ((lgam3 x : ℝ) : EReal) := by
  have h1 : 0 < x + 1 := by linarith
  have h2 : 0 < x + 2 := by linarith
  have e : ser3E x = ((ser3 x : ℝ) : EReal) := by
    unfold ser3E ser3
    rw [add_zero, ← EReal.coe_one, ← EReal.coe_add x 1, div_coe_coe _ h.ne', div_coe_coe _ h1.ne', EReal.coe_add, EReal.coe_add]
  rw [lgam3E, e, ← EReal.coe_add x 2, log_pos_coe h2, log_pos_coe (ser3_pos h)]
  simp only [← EReal.coe_add, ← EReal.coe_mul, ← EReal.coe_sub]
  rfl

theorem lgam5E_coe (h : 0 < θ) : lgam5E θ = ((lgam5 θ : ℝ) : EReal) := by
  have h1 : 0 < θ + 1 := by linarith
  have h2 : 0 < θ + 2 := by linarith
  have h3 : 0 < θ + 3 := by linarith
  have h4 : 0 < θ + 4 := by linarith
  have e : ser5E θ = ((ser5 θ : ℝ) : EReal) := by
    unfold ser5E ser5
    rw [add_zero, ← EReal.coe_one]
    simp only [← EReal.coe_add]
    rw [div_coe_coe _ h.ne', div_coe_coe _ h1.ne', div_coe_coe _ h2.ne', div_coe_coe _ h3.ne']
    simp only [← EReal.coe_add]
  rw [lgam5E, e, ← EReal.coe_add θ 4, log_pos_coe h4, log_pos_coe (ser5_pos h)]
  simp only [← EReal.coe_add, ← EReal.coe_mul, ← EReal.coe_sub]
  rfl

theorem entryE_coe (hx : 0 ≤ x) (hμ : 0 ≤ μ) (h : 0 < θ) : entryE x μ θ = ((entry x μ θ : ℝ) : EReal) := by
  have he := eps_pos
  have h1 : 0 < θ + eps := by linarith
  have h2 : 0 < θ + μ + eps := by linarith
  have h3 : 0 < μ + eps := by linarith
  have h4 : 0 < x + θ := by linarith
  have h5 : 0 < x + 1 := by linarith
  unfold entryE
  rw [lgam5E_coe h, ← EReal.coe_one]
  simp only [← EReal.coe_add]
  rw [lgam3E_coe h4, lgam3E_coe h5, log_pos_coe h1, log_pos_coe h2, log_pos_coe h3]
  simp only [← EReal.coe_add, ← EReal.coe_mul, ← EReal.coe_sub]
  rfl

end numbers

/-! ## At the infinities -/

/-- A sum with a summand that is minus infinity. -/
theorem sum_bot {ι : Type} [Fintype ι] [DecidableEq ι] {f : ι → EReal} (g : ι) (h : f g = ⊥) : ∑ i, f i = ⊥ := by
  rw [← Finset.add_sum_erase _ _ (Finset.mem_univ g), h, EReal.bot_add]

/-- A sum with a summand that is plus infinity and none that is negative. -/
theorem sum_top {ι : Type} [Fintype ι] [DecidableEq ι] {f : ι → EReal} (h0 : ∀ i, 0 ≤ f i) (g : ι) (h : f g = ⊤) : ∑ i, f i = ⊤ := by
  have : 0 ≤ ∑ i ∈ Finset.univ.erase g, f i := Finset.sum_nonneg fun i _ => h0 i
  rw [← Finset.add_sum_erase _ _ (Finset.mem_univ g), h, EReal.top_add_of_ne_bot (EReal.bot_lt_zero.trans_le this).ne']

theorem log_zero : Ideal.log 0 = ⊥ := by rw [← EReal.coe_zero, Ideal.log_coe, if_pos le_rfl]
theorem log_top : Ideal.log ⊤ = ⊤ := rfl

/-- The quotient of a positive number by zero. -/
theorem div_zero_pos {a : ℝ} (h : 0 < a) : Ideal.div (a : EReal) 0 = ⊤ := by
  unfold Ideal.div
  rw [if_pos rfl, if_pos (EReal.coe_pos.2 h)]
theorem one_div_top : Ideal.div 1 ⊤ = 0 := by
  unfold Ideal.div
  rw [if_neg EReal.top_ne_zero, EReal.inv_top, mul_zero]
theorem one_div_bot : Ideal.div 1 ⊥ = 0 := by
  unfold Ideal.div
  rw [if_neg EReal.bot_ne_zero, EReal.inv_bot, mul_zero]

theorem top_add_coe' (r : ℝ) : (⊤ : EReal) + (r : EReal) = ⊤ := EReal.top_add_coe r

/-- The shared sum at a dispersion that is infinite, and at one that is zero. -/
theorem sharedE_top : sharedE ⊤ = ⊥ := by
  unfold sharedE
  rw [sub_eq_add_neg _ (⊤ : EReal), EReal.neg_top, EReal.add_bot, EReal.bot_add]
theorem sharedE_zero : sharedE 0 = ⊥ := by
  have hd : 0 < 6 * d1 := by unfold d1; norm_num
  have e : Ideal.log (Ideal.div (n5E 0) (m5E 0)) = ⊤ := by
    unfold n5E m5E
    rw [mul_zero, mul_zero, zero_add, div_zero_pos hd, log_top]
  have h4 : (0 : EReal) + (4 : ℝ) = ((4 : ℝ) : EReal) := zero_add _
  unfold sharedE
  rw [e, h4, log_pos_coe (by norm_num), zero_sub, ← EReal.coe_neg, ← EReal.coe_mul, ← EReal.coe_sub, EReal.coe_add_top,
    sub_eq_add_neg _ (⊤ : EReal), EReal.neg_top, EReal.add_bot, sub_eq_add_neg, EReal.bot_add, EReal.bot_add]

/-- The reference's summand at either. -/
theorem entryE_top_dispersion (x : EReal) {μ : EReal} (h : 0 ≤ μ) : entryE x μ ⊤ = ⊥ := by
  have hμ : μ ≠ ⊥ := (EReal.bot_lt_zero.trans_le h).ne'
  unfold entryE
  rw [EReal.top_add_of_ne_bot hμ, top_add_coe', log_top, sub_eq_add_neg (⊤ : EReal) ⊤, EReal.neg_top, EReal.add_bot,
    EReal.top_mul_bot]
  simp only [sub_eq_add_neg, EReal.bot_add]
theorem entryE_zero_dispersion (x μ : EReal) : entryE x μ 0 = ⊥ := by
  have hd : 0 < d1 := by unfold d1; norm_num
  have e : lgam5E 0 = ⊤ := by
    unfold lgam5E ser5E
    rw [div_zero_pos hd, zero_add, zero_add, zero_add, zero_add, zero_sub, ← EReal.coe_one, div_coe_coe _ one_ne_zero,
      div_coe_coe _ two_ne_zero, div_coe_coe _ three_ne_zero, log_pos_coe (by norm_num), EReal.coe_add_top, top_add_coe', top_add_coe',
      top_add_coe', log_top, ← EReal.coe_neg, ← EReal.coe_mul, ← EReal.coe_sub, EReal.coe_add_top]
  unfold entryE
  rw [e, sub_eq_add_neg _ (⊤ : EReal), EReal.neg_top, EReal.add_bot, sub_eq_add_neg, EReal.bot_add]

section
variable {x μ : EReal} {θ : ℝ} (hx : 0 ≤ x) (hθ : 0 < θ)
include hθ

/-- At an infinite count, whatever the mean. -/
theorem entryE_top_count (μ : EReal) : entryE ⊤ μ θ = ⊥ := by
  have e : lgam3E ⊤ = ⊥ := by
    unfold lgam3E
    rw [top_add_coe', log_top, sub_eq_add_neg ((_ : EReal) * _) ⊤, EReal.neg_top, EReal.add_bot, EReal.bot_add]
  unfold entryE
  rw [top_add_coe', e, EReal.add_bot]
  simp only [sub_eq_add_neg, EReal.bot_add]

/-- At an infinite mean. -/
theorem entryE_top_mean (x : EReal) : entryE x ⊤ θ = ⊥ := by
  have he := eps_pos
  have h1 : 0 < θ + eps := by linarith
  unfold entryE
  rw [EReal.coe_add_top, top_add_coe', log_top, ← EReal.coe_add, log_pos_coe h1, sub_eq_add_neg ((_ : ℝ) : EReal) ⊤, EReal.neg_top,
    EReal.add_bot, EReal.mul_bot_of_pos (EReal.coe_pos.2 hθ)]
  simp only [sub_eq_add_neg, EReal.bot_add]

include hx

theorem count_add_pos : 0 < x + (θ : EReal) := lt_of_lt_of_le (EReal.coe_pos.2 hθ) (le_add_of_nonneg_left hx)

theorem wwE_pos : 0 < wwE x θ := by
  have h0 : (0 : EReal) ≤ (c0 : ℝ) := EReal.coe_nonneg.2 (by unfold c0; norm_num)
  have h1 : (0 : EReal) ≤ (3 * c0 + c1 + c2 : ℝ) := EReal.coe_nonneg.2 (by unfold c0 c1 c2; norm_num)
  have h2 : (0 : EReal) < (2 * c0 + 2 * c1 + c2 : ℝ) := EReal.coe_pos.2 (by unfold c0 c1 c2; norm_num)
  have ha := count_add_pos hx hθ
  refine EReal.mul_pos (EReal.mul_pos ha (lt_of_lt_of_le ha (le_add_of_nonneg_right zero_le_one))) ?_
  exact lt_of_lt_of_le h2 (le_add_of_nonneg_left (mul_nonneg (add_nonneg (mul_nonneg h0 hx) h1) hx))

/-- Where the kernel's common reciprocal vanishes, so does the argument of its first logarithm. -/
theorem cellE_of_rrE (h : rrE x μ θ = 0) : cellE x μ θ = ⊥ := by
  unfold cellE arg1E
  rw [h, mul_zero, log_zero, EReal.mul_bot_of_pos (count_add_pos hx hθ), EReal.bot_add, EReal.bot_add]

/-- The kernel's summand at a mean that is minus infinity. -/
theorem cellE_bot_mean : cellE x ⊥ θ = ⊥ := by
  refine cellE_of_rrE hx hθ ?_
  have h3 : 0 < x + ((3 : ℝ) : EReal) := count_add_pos hx (by norm_num)
  unfold rrE zzE tmE
  rw [EReal.add_bot, EReal.bot_mul_of_pos h3, EReal.bot_mul_of_pos (wwE_pos hx hθ), one_div_bot]

omit hx in
/-- The kernel's summand at an infinite count. -/
theorem cellE_top_count (h : 0 ≤ μ) : cellE ⊤ μ θ = ⊥ := by
  refine cellE_of_rrE le_top hθ ?_
  have he := eps_pos
  have ht : 0 < tmE μ θ := by
    unfold tmE
    rw [← EReal.coe_add]
    exact lt_of_lt_of_le (EReal.coe_pos.2 (by linarith)) (le_add_of_nonneg_right h)
  unfold rrE zzE
  rw [top_add_coe', EReal.mul_top_of_pos ht, EReal.top_mul_of_pos (wwE_pos le_top hθ), one_div_top]

end

/-! ## A row -/

/-- The kernel's loss of a cell is the reference's, for any counts that are not negative, any dispersions and any weights. -/
theorem row_eq {ι : Type} [Fintype ι] (x p w : ι → EReal) (h0 : ∀ g, 0 ≤ x g) :
    0 - ((∑ g, cellE (x g) ((∑ i, x i) * layers (soft (w g))) (Ideal.exp (p g))) + ∑ g, sharedE (Ideal.exp (p g)))
      = -∑ g, entryE (x g) ((∑ i, x i) * soft (w g)) (Ideal.exp (p g)) := by
  classical
  have L0 : 0 ≤ ∑ i, x i := Finset.sum_nonneg fun i _ => h0 i
  have S0 : ∀ g, 0 ≤ soft (w g) := fun g => by
    rcases soft_cases (w g) with h | ⟨s, hs, h⟩
    · rw [h]; exact le_top
    · rw [h]; exact EReal.coe_nonneg.2 hs
  rw [zero_sub]
  refine congrArg (fun z : EReal => -z) ?_
  -- a dispersion that is not a positive number
  by_cases hp : ∃ g, p g = ⊤ ∨ p g = ⊥
  · obtain ⟨g, h | h⟩ := hp
    · rw [sum_bot (f := fun g => sharedE (Ideal.exp (p g))) g (by rw [h, Ideal.exp_top, sharedE_top]), EReal.add_bot,
        sum_bot g (by rw [h, Ideal.exp_top, entryE_top_dispersion _ (mul_nonneg L0 (S0 g))])]
    · rw [sum_bot (f := fun g => sharedE (Ideal.exp (p g))) g (by rw [h, Ideal.exp_bot, sharedE_zero]), EReal.add_bot,
        sum_bot g (by rw [h, Ideal.exp_bot, entryE_zero_dispersion])]
  obtain ⟨θ, T0, hθ⟩ : ∃ θ : ι → ℝ, (∀ g, 0 < θ g) ∧ ∀ g, Ideal.exp (p g) = ((θ g : ℝ) : EReal) := by
    refine ⟨fun g => Real.exp (p g).toReal, fun g => Real.exp_pos _, fun g => ?_⟩
    have hg := not_or.1 (not_exists.1 hp g)
    rw [← Ideal.exp_coe, EReal.coe_toReal hg.1 hg.2]
  simp only [hθ]
  -- an infinite count
  by_cases hx : ∃ g, x g = ⊤
  · obtain ⟨g, h⟩ := hx
    have hc : cellE ⊤ (⊤ * layers (soft (w g))) (θ g) = ⊥ := by
      rcases soft_cases (w g) with e | ⟨s, hs, e⟩
      · rw [e, layers_top, EReal.top_mul_bot]
        exact cellE_bot_mean le_top (T0 g)
      · rw [e, layers_coe]
        exact cellE_top_count (T0 g) (mul_nonneg le_top (EReal.coe_nonneg.2 hs))
    rw [sum_bot (f := fun g => cellE (x g) ((∑ i, x i) * layers (soft (w g))) (θ g)) g
        (by rw [sum_top h0 g h, h]; exact hc), EReal.bot_add,
      sum_bot g (by rw [h, entryE_top_count (T0 g)])]
  obtain ⟨X, X0, hX⟩ : ∃ X : ι → ℝ, (∀ g, 0 ≤ X g) ∧ ∀ g, x g = ((X g : ℝ) : EReal) :=
    ⟨fun g => (x g).toReal, fun g => EReal.toReal_nonneg (h0 g), fun g =>
      (EReal.coe_toReal (not_exists.1 hx g) (EReal.bot_lt_zero.trans_le (h0 g)).ne').symm⟩
  simp only [hX, sum_coe]
  have hL : 0 ≤ ∑ i, X i := Finset.sum_nonneg fun i _ => X0 i
  generalize (∑ i, X i) = L at hL
  -- an infinite weight in a cell that counts something
  by_cases hw : 0 < L ∧ ∃ g, soft (w g) = ⊤
  · obtain ⟨hL, g, h⟩ := hw
    rw [sum_bot (f := fun g => cellE (X g) (L * layers (soft (w g))) (θ g)) g
        (by rw [h, layers_top, EReal.mul_bot_of_pos (EReal.coe_pos.2 hL)]; exact cellE_bot_mean (EReal.coe_nonneg.2 (X0 g)) (T0 g)),
      EReal.bot_add,
      sum_bot g (by rw [h, EReal.mul_top_of_pos (EReal.coe_pos.2 hL), entryE_top_mean (T0 g)])]
  -- numbers throughout
  have hM : ∀ g, ∃ M : ℝ, 0 ≤ M ∧ (L : EReal) * layers (soft (w g)) = (M : EReal) ∧ (L : EReal) * soft (w g) = (M : EReal) := by
    intro g
    rcases soft_cases (w g) with h | ⟨s, hs, h⟩
    · have : L = 0 := le_antisymm (not_lt.1 fun h' => hw ⟨h', g, h⟩) hL
      exact ⟨0, le_rfl, by rw [this, EReal.coe_zero, zero_mul], by rw [this, EReal.coe_zero, zero_mul]⟩
    · exact ⟨L * s, mul_nonneg hL hs, by rw [h, layers_coe, EReal.coe_mul], by rw [h, EReal.coe_mul]⟩
  rw [← Finset.sum_add_distrib]
  refine Finset.sum_congr rfl fun g _ => ?_
  obtain ⟨M, M0, e1, e2⟩ := hM g
  rw [e1, e2, cellE_coe (X0 g) M0 (T0 g), sharedE_coe (T0 g), entryE_coe (X0 g) M0 (T0 g), ← EReal.coe_add,
    cell_add_shared (X0 g) M0 (T0 g)]

end Cert.Loss

end
-- ==== Proof.Row.lean ====
/- The loss of one cell as the kernel's block computes it: `Loss.cellE` summed over the genes, with `Loss.sharedE` summed by the
   first point for all cells. -/
module

public import proofs.«01_k».proof.Proof.Pick
public import proofs.«01_k».proof.Proof.Corners

@[expose] public section

set_option maxRecDepth 16384

noncomputable section

namespace Cert.KernelIdeal.Gen

open Idealize.ShloMosaic Idealize.ShloMosaic.TcCoe Cert.Loss

/-! ## The sum the first point keeps -/

section first
variable (x1 : Vec Ideal S1x20000 .f32)

theorem pay9_at (g : Fin 20000) : k0_pay9 x1 (ix2 0 g) = Ideal.exp (x1 (ix2 0 g)) := by pointwise [k0_pay9]

/-- The dispersions. -/
theorem theta_at (g : Fin 20000) : thetaOf x1 (ix2 0 g) = Ideal.exp (x1 (ix2 0 g)) := by
  rw [← pay9_at]; pointwise [thetaOf, k0_pay10]

theorem pay11_at (g : Fin 20000) : k0_pay11 x1 (ix2 0 g) = Ideal.log (Ideal.exp (x1 (ix2 0 g)) + (eps : ℝ)) := by
  rw [← word_eps, ← pay9_at]; pointwise [k0_pay11]

/-- What all cells share. -/
theorem const_at (i : S1x1.Idx) : constOf x1 i = ∑ g, sharedE (Ideal.exp (x1 (ix2 0 g))) := by
  show k0_pay12 (k0_pay9 x1) (k0_pay11 x1) = _
  pointwise [k0_pay12]
  rw [Fintype.sum_unique]
  refine Finset.sum_congr rfl fun g _ => ?_
  have e9 := pay9_at x1 g
  have e11 := pay11_at x1 g
  rw [e9, e11, word_half, word_four, word_c0, word_six, word_eleven, name_n3, name_n2, name_n1, name_n0]
  rfl

end first

/-! ## The block -/

section block
variable (x0 : Vec Ideal S1x1x64 .i32) (v37 : Vec Ideal S1x64x20000 .f32) (v64 : Vec Ideal S192x20000 .bf16)
  (v66 : Vec Ideal S1x20000 .f32) (cv : Elt Ideal .f32) (l : Fin 64) (g : Fin 20000)

/-- The mean at one gene. -/
def mean : EReal := (∑ i, v37 (ix3 0 l i) : EReal) * k0_pay14 x0 v64 (ix2 l g)

theorem pay13_at : k0_pay13 v37 (ix2 l g) = v37 (ix3 0 l g) := by pointwise [k0_pay13]

/-- The library size. -/
theorem pay17_at : k0_pay17 v37 (ix2 l 0) = (∑ i, v37 (ix3 0 l i) : EReal) := by pointwise [k0_pay17, k0_pay13]

theorem pay21_at : k0_pay21 (k0_pay13 v37) (ix2 l g) = (v37 (ix3 0 l g) + (3 : ℝ) : EReal) := by
  rw [← pay13_at v37 l g, ← word_three]; pointwise [k0_pay21]

theorem pay18_at : k0_pay18 (k0_pay14 x0 v64) (k0_pay17 v37) (ix2 l g) = mean x0 v37 v64 l g := by
  unfold mean
  rw [← pay17_at]; pointwise [k0_pay18]

theorem pay19_at : k0_pay19 (k0_pay13 v37) v66 (ix2 l g) = (v37 (ix3 0 l g) + v66 (ix2 0 g) : EReal) := by
  rw [← pay13_at v37 l g]; pointwise [k0_pay19]

theorem pay20_at : k0_pay20 (k0_pay13 v37) (k0_pay16 v66) (ix2 l g) = (v37 (ix3 0 l g) + (v66 (ix2 0 g) + (2 : ℝ)) : EReal) := by
  rw [← pay13_at v37 l g, ← word_two]; pointwise [k0_pay20, k0_pay16]

theorem pay23_at : k0_pay23 (k0_pay13 v37) v66 (ix2 l g) = wwE (v37 (ix3 0 l g)) (v66 (ix2 0 g)) := by
  pointwise [k0_pay23]
  rw [pay19_at, pay13_at, word_c0, name_ps1, name_ps0]
  rfl

theorem pay28_at : k0_pay28 (k0_pay13 v37) v66 (ix2 l g) = numE (v37 (ix3 0 l g)) (v66 (ix2 0 g)) := by
  pointwise [k0_pay28]
  rw [pay19_at, pay13_at, word_c0, word_c1, name_p1, word_three_halves, word_quarter]
  rfl

theorem pay22_at : k0_pay22 (k0_pay14 x0 v64) (k0_pay15 v66) (k0_pay17 v37) (ix2 l g)
    = tmE (mean x0 v37 v64 l g) (v66 (ix2 0 g)) := by
  unfold tmE
  rw [← pay18_at, ← word_eps]; pointwise [k0_pay22, k0_pay15]

theorem pay24_at : k0_pay24 (k0_pay13 v37) (k0_pay14 x0 v64) (k0_pay15 v66) (k0_pay17 v37) (ix2 l g)
    = zzE (v37 (ix3 0 l g)) (mean x0 v37 v64 l g) (v66 (ix2 0 g)) := by
  unfold zzE
  rw [← pay22_at, ← pay21_at]; pointwise [k0_pay24]

theorem pay25_at : k0_pay25 (k0_pay13 v37) (k0_pay14 x0 v64) v66 (k0_pay15 v66) (k0_pay17 v37) (ix2 l g)
    = rrE (v37 (ix3 0 l g)) (mean x0 v37 v64 l g) (v66 (ix2 0 g)) := by
  pointwise [k0_pay25]
  rw [pay24_at, pay23_at]
  rfl

theorem pay26_at : k0_pay26 (k0_pay13 v37) (k0_pay14 x0 v64) v66 (k0_pay15 v66) (k0_pay16 v66) (k0_pay17 v37) (ix2 l g)
    = Ideal.log (arg1E (v37 (ix3 0 l g)) (mean x0 v37 v64 l g) (v66 (ix2 0 g))) := by
  pointwise [k0_pay26]
  rw [pay20_at, pay21_at, pay23_at, pay25_at]
  rfl

theorem pay27_at : k0_pay27 (k0_pay13 v37) (k0_pay14 x0 v64) v66 (k0_pay15 v66) (k0_pay17 v37) (ix2 l g)
    = Ideal.log (arg2E (v37 (ix3 0 l g)) (mean x0 v37 v64 l g) (v66 (ix2 0 g))) := by
  pointwise [k0_pay27]
  rw [pay18_at, pay22_at, pay23_at, pay25_at, word_eps]
  rfl

/-- The loss of a cell. -/
theorem block_at : blockOut x0 v37 v64 v66 cv (ix3 0 0 l)
    = (0 - ((∑ g, cellE (v37 (ix3 0 l g)) (mean x0 v37 v64 l g) (v66 (ix2 0 g))) + cv) : EReal) := by
  pointwise [blockOut, k0_pay1]
  refine congrArg (fun z : EReal => 0 - (z + cv)) (Finset.sum_congr rfl fun g _ => ?_)
  rw [pay19_at, pay26_at, pay13_at, pay27_at, pay28_at, pay24_at, pay25_at, pay20_at, pay21_at]
  rfl

end block

end Cert.KernelIdeal.Gen

end
-- ==== Proof.Reference.lean ====
/- What the reference's first result holds: at every cell, the negated sum over the genes of the log probabilities
   `Loss.entryE`, with the mean of the cell's library size and the softplus weight that its label picks. -/
module

public import proofs.«01_k».proof.Proof.Gen.ReferenceIdeal.Run
public import proofs.«01_k».proof.Proof.Corners

@[expose] public section

set_option maxRecDepth 16384

noncomputable section

namespace Cert.ReferenceIdeal.Value

open Idealize.ShloMosaic Idealize.ShloMosaic.TcCoe Cert.Loss Cert.ReferenceIdeal.Gen

/-- The gather at gene `g` and cell `j`: the operand's row `g`, at the cell's start index. -/
theorem gather_at {α : Type} (W : S20000x64.Idx → α) (y : IVec S4096x1 32) (g : Fin 20000) (j : Fin 4096) (k : Fin 64)
    (hk : y (ix2 j 0) = BitVec.ofNat 32 k.val) :
    Host.gather gather_S20000x64_S4096x1_S20000x4096_0_1_n_n_1_1_200001 W y (ix2 g j) = W (ix2 g k) := by
  unfold Host.gather
  congr 1
  funext a
  refine Fin.ext ?_
  show GatherDims.start _ (ix2 g j) y a + GatherDims.batchCoord _ (ix2 g j) a + GatherDims.offCoord _ (ix2 g j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · unfold GatherDims.start
    rw [dif_neg (by decide), Nat.zero_add]
    unfold GatherDims.offCoord
    rw [dif_pos (by decide)]
    rfl
  · rw [GatherDims.offCoord_eq_zero _ _ _ (by decide), Nat.add_zero]
    unfold GatherDims.start
    rw [dif_pos (by decide)]
    have hs : ∀ p, GatherDims.siIdx gather_S20000x64_S4096x1_S20000x4096_0_1_n_n_1_1_200001 (ix2 g j) p = ix2 j 0 := by
      intro p
      funext b
      refine Fin.ext ?_
      match b with
      | ⟨0, _⟩ => rfl
      | ⟨1, _⟩ => exact Nat.lt_one_iff.1 (Fin.isLt _)
    rw [hs, hk]
    have : ∀ k : Fin 64, min (BitVec.ofNat 32 k.val).toInt.toNat (64 - 1) = k.val := by decide
    exact this k

/-- The softplus of the weights, and the labels with the negative ones wrapped, as the reference spells them. -/
abbrev softs (W : FVec Ideal S20000x64 .f32) : FVec Ideal S20000x64 .f32 :=
  select (cmpf .une (subf W (broadcastInDim S20000x64 ![] bcast_S_S20000x64 (constant S_ .f32 0x00000000#32)))
      (subf W (broadcastInDim S20000x64 ![] bcast_S_S20000x64 (constant S_ .f32 0x00000000#32))))
    (addf W (broadcastInDim S20000x64 ![] bcast_S_S20000x64 (constant S_ .f32 0x00000000#32)))
    (addf (maximumf W (broadcastInDim S20000x64 ![] bcast_S_S20000x64 (constant S_ .f32 0x00000000#32)))
      (Host.log1p (Host.exp (Host.negf (Host.absf
        (subf W (broadcastInDim S20000x64 ![] bcast_S_S20000x64 (constant S_ .f32 0x00000000#32))))))))
abbrev wrapped (y : IVec S4096x1 32) : IVec S4096x1 32 :=
  broadcastInDim S4096x1 ![0] bcast_S4096_S4096x1_0
    (select (cmpi .slt (shapeCast S4096 y shapeCasts_S4096x1_S4096) (broadcastInDim S4096 ![] bcast_S_S4096 (constantI S_ 32 0#32)))
      (addi (shapeCast S4096 y shapeCasts_S4096x1_S4096) (broadcastInDim S4096 ![] bcast_S_S4096 (constantI S_ 32 64#32)))
      (shapeCast S4096 y shapeCasts_S4096x1_S4096))

theorem softs_at (W : FVec Ideal S20000x64 .f32) (g : Fin 20000) (k : Fin 64) : softs W (ix2 g k) = soft (W (ix2 g k)) := by
  pointwise [softs]
  rw [if_neg (by simp)]
  rfl

theorem wrapped_at (y : IVec S4096x1 32) (j : Fin 4096) (k : Fin 64) (hk : y (ix2 j 0) = BitVec.ofNat 32 k.val) :
    wrapped y (ix2 j 0) = BitVec.ofNat 32 k.val := by
  pointwise [wrapped]
  have : ∀ k : Fin 64, Scalar.select (IntOp.cmpi .slt (BitVec.ofNat 32 k.val) 0#32) (IntOp.addi (BitVec.ofNat 32 k.val) 64#32)
    (BitVec.ofNat 32 k.val) = BitVec.ofNat 32 k.val := by decide +kernel
  rw [hk]
  exact this k

theorem pick_at (W : FVec Ideal S20000x64 .f32) (y : IVec S4096x1 32) (g : Fin 20000) (j : Fin 4096) (k : Fin 64)
    (hk : y (ix2 j 0) = BitVec.ofNat 32 k.val) :
    Host.gather gather_S20000x64_S4096x1_S20000x4096_0_1_n_n_1_1_200001 (softs W) (wrapped y) (ix2 g j) = soft (W (ix2 g k)) :=
  (gather_at _ _ g j k (wrapped_at y j k hk)).trans (softs_at W g k)

variable (m : (ℓ : Loc nD τ sig) → Buf (Elt Ideal) ℓ) (c : Dev nD) (j : Fin 4096) (k : Fin 64) (x p w : Fin 20000 → EReal)

/-- The loss of a cell. -/
theorem loss_at (hx : ∀ g, m ((c.tc : Thread nD τ).loc main_arg0) (ix2 j g) = x g)
    (hk : m ((c.tc : Thread nD τ).loc main_arg1) (ix2 j 0) = BitVec.ofNat 32 k.val)
    (hp : ∀ g, m ((c.tc : Thread nD τ).loc main_arg3) (ix1 g) = p g)
    (hw : ∀ g, m ((c.tc : Thread nD τ).loc main_arg4) (ix2 g k) = w g) :
    res_main_v113 m c (ix1 j) = -∑ g, entryE (x g) ((∑ i, x i) * soft (w g)) (Ideal.exp (p g)) := by
  have hs : (∑ i, m ((c.tc : Thread nD τ).loc main_arg0) (ix2 j i) : EReal) = ∑ i, x i := Finset.sum_congr rfl fun i _ => hx i
  pointwise [res_main_v113]
  refine congrArg (fun z : EReal => -z) (Finset.sum_congr rfl fun g _ => ?_)
  have eg := pick_at (m ((c.tc : Thread nD τ).loc main_arg4)) (m ((c.tc : Thread nD τ).loc main_arg1)) g j k hk
  rw [hw g] at eg
  rw [eg, hs, hx, hp, word_eps, word_half, word_two, word_three, word_four, word_c0, word_c1, word_c2, word_d1, word_d2, word_d3,
    word_d4]
  rfl

end Cert.ReferenceIdeal.Value

end
-- ==== Proof.Precondition.lean ====
/- What the precondition says of the arguments: no count is negative and every label is below 64. -/
module

public import proofs.«01_k».proof.Proof.Gen.Pre_counts_and_labels
public import Idealize.ShloMosaic.Lib.ReduceAll
public import Idealize.ShloMosaic.Lib.Pointwise
public import Idealize.ShloMosaic.PureOps.Ideal

@[expose] public section

set_option maxRecDepth 16384

noncomputable section

namespace Cert.Pre_counts_and_labels

open Idealize.ShloMosaic Idealize.ShloMosaic.TcCoe Cert.Pre_counts_and_labels.Gen

theorem word_nil : Ideal.ofBits .f32 0x00000000#32 = 0 := by simp [Ideal.ofBits, Ideal.ieee]

instance : Subsingleton S_.Idx := ⟨fun a b => funext fun i => i.elim0⟩

/-- A conjunction of two bits that is 1 is 1 in both. -/
theorem both : ∀ a b : BitVec 1, IntOp.andi a b = 1#1 → a = 1#1 ∧ b = 1#1 := by decide

/-- A comparison that is 1 holds. -/
theorem holds {P : Prop} [Decidable P] (h : BitVec.ofBool (decide P) = 1#1) : P := by
  by_contra h'
  rw [decide_eq_false h'] at h
  exact absurd h (by decide)

variable (x : FVec Ideal S4096x20000 .f32) (y : IVec S4096x1 32) (i : IVec S4096 32) (p : FVec Ideal S20000 .f32)
  (W : FVec Ideal S20000x64 .f32) (h : fn (F := Ideal) x y i p W = fun _ => 1#1)
include h

theorem clauses : (∀ a : S4096x20000.Idx, (0 : EReal) ≤ x a) ∧ ∀ a : S4096x1.Idx, 0 ≤ (y a).toInt ∧ (y a).toInt < 64 := by
  have h0 := congrFun h (Shape.Idx.first h_S_)
  unfold fn at h0
  obtain ⟨hx, hy⟩ := both _ _ h0
  refine ⟨fun a => ?_, fun a => ?_⟩
  · exact word_nil ▸ holds (Host.reduce_andi_all _ _ _ _ _ hx a)
  · obtain ⟨u, v⟩ := both _ _ (Host.reduce_andi_all _ _ _ _ _ hy a)
    exact ⟨IntOp.cmpi_sge.1 u, IntOp.cmpi_slt.1 v⟩

/-- The counts are not negative. -/
theorem counts (a : S4096x20000.Idx) : (0 : EReal) ≤ x a := (clauses x y i p W h).1 a

/-- The labels are below 64. -/
theorem labels (a : S4096x1.Idx) : ∃ k : Fin 64, y a = BitVec.ofNat 32 k.val := by
  obtain ⟨h0, h1⟩ := (clauses x y i p W h).2 a
  refine ⟨⟨(y a).toInt.toNat, by omega⟩, ?_⟩
  refine BitVec.eq_of_toNat_eq ?_
  show _ = (BitVec.ofNat 32 (y a).toInt.toNat).toNat
  rw [BitVec.toNat_ofNat]
  have := (y a).isLt
  rw [BitVec.toInt_eq_toNat_cond] at h0 h1 ⊢
  split at h0 <;> omega

end Cert.Pre_counts_and_labels

end
-- ==== Proof.Equation.lean ====
/- The kernel's losses are the reference's, at every input that the precondition admits. -/
module

public import proofs.«01_k».proof.Defs
public import proofs.«01_k».proof.Proof.Result
public import proofs.«01_k».proof.Proof.Row
public import proofs.«01_k».proof.Proof.Reference
public import proofs.«01_k».proof.Proof.Precondition

@[expose] public section

set_option maxRecDepth 16384

noncomputable section

namespace Cert.Equation

open Idealize.ShloMosaic Idealize.ShloMosaic.TcCoe Cert.Loss
open Cert.KernelIdeal (cfg0 nD τ sig main_arg0 main_arg1 main_arg2 main_arg3 main_arg4 S4096)
open Cert.KernelIdeal.Gen

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)

/-- The kernel's loss at a cell labelled `k`. -/
theorem kernel_at (t : Fin cfg0.N) (l k : Fin 64) (x p w : Fin 20000 → EReal)
    (hx : ∀ g, (m ((c.tc : Thread nD τ).loc main_arg0) : Vec Ideal Cert.KernelIdeal.S4096x20000 .f32) (ix2 (rowOf t l) g) = x g)
    (hk : (m ((c.tc : Thread nD τ).loc main_arg1) : Vec Ideal Cert.KernelIdeal.S4096x1 .i32) (ix2 (rowOf t l) 0) = BitVec.ofNat 32 k.val)
    (hp : ∀ g, (m ((c.tc : Thread nD τ).loc main_arg3) : Vec Ideal Cert.KernelIdeal.S20000 .f32) (ix1 g) = p g)
    (hw : ∀ g, (m ((c.tc : Thread nD τ).loc main_arg4) : Vec Ideal Cert.KernelIdeal.S20000x64 .f32) (ix2 g k) = w g) :
    outBlk m c t (ix3 0 0 l)
      = (0 - ((∑ g, cellE (x g) ((∑ i, x i) * layers (soft (w g))) (Ideal.exp (p g))) + ∑ g, sharedE (Ideal.exp (p g))) : EReal) := by
  have ex : ∀ g, _ = x g := fun g => (xslot_at c t (V m c main_arg0) l g).trans (hx g)
  have ep : ∀ g, _ = p g := fun g => (iblk_px m c t0 g).trans (hp g)
  have es : ∀ g, _ = layers (soft (w g)) := fun g =>
    (pay14_at (iblk m c 2 t0) (iblk m c 0 t) l k ((iblk_labels m c t l).trans hk) g).trans
      (congrArg (fun z => layers (soft z)) ((iblk_w m c t0 k g).trans (hw g)))
  unfold outBlk
  rw [block_at, const_at]
  simp only [mean, theta_at, ex, ep, es]

/-- The first result. -/
theorem results_eq (hpre : Cert.Pre_counts_and_labels.fn (F := Ideal) (m ((c.tc : Thread nD τ).loc main_arg0))
      (m ((c.tc : Thread nD τ).loc main_arg1)) (m ((c.tc : Thread nD τ).loc main_arg2)) (m ((c.tc : Thread nD τ).loc main_arg3))
      (m ((c.tc : Thread nD τ).loc main_arg4)) = fun _ => 1#1)
    (hargs : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) :
    Cert.ReferenceIdeal.Value.res_main_v113 m' c = shapeCast S4096 (outArr m c) shapeCasts_S64x1x64_S4096 := by
  obtain ⟨e0, e1, -, e3, e4⟩ := hargs
  have hX := Cert.Pre_counts_and_labels.counts _ _ _ _ _ hpre
  have hL := Cert.Pre_counts_and_labels.labels _ _ _ _ _ hpre
  funext j
  obtain ⟨t, l, rfl⟩ := rowOf_surj j
  obtain ⟨k, hk⟩ := hL (ix2 (rowOf t l) 0)
  rw [out_row]
  refine (Cert.ReferenceIdeal.Value.loss_at m' c (rowOf t l) k _ _ _ (fun g => ?_) ?_ (fun g => ?_) fun g => ?_).trans
    ((kernel_at m c t l k _ _ _ (fun g => rfl) hk (fun g => rfl) fun g => rfl).trans (row_eq _ _ _ fun g => hX _)).symm
  · rw [e0]
  · rw [e1]; exact hk
  · rw [e3]
  · rw [e4]

end Cert.Equation

end
-- ==== Proof.lean ====
/- The five claims, assembled: the three frames, the named constants, and the equation of the kernel's results with
   the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_counts_and_labels
public import proofs.«01_k».proof.Proof.Gen.ReferenceIdeal.Run
public import proofs.«01_k».proof.Proof.Result
public import proofs.«01_k».proof.Proof.KernelFrame
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel with named constants ends, with its arguments unchanged and every counter at zero. -/
theorem frame_kernelIdeal : Cert.quiescent_KernelIdeal (hKernelIdeal := Cert.KernelIdeal.Gen.facts) := fun m ρ _ =>
  (θ_run _ _ _).mono (fun _ h => ⟨fun c => (h.1 c).2, h.2⟩) (Cert.KernelIdeal.Gen.run (F := Ideal) m ρ)

/-- The reference ends, with its arguments unchanged and every counter at zero. -/
theorem frame_referenceIdeal : Cert.quiescent_ReferenceIdeal (hReferenceIdeal := Cert.ReferenceIdeal.Gen.facts) := fun m ρ _ =>
  (θ_run _ _ _).mono (fun r h => ⟨fun c => (h c).2.2.2, Idealize.ShloMosaic.sem_eq_zero_of_no_sems (by decide) r.2⟩)
    (Cert.ReferenceIdeal.Value.run (F := Ideal) m ρ)

/-- Each named constant has the word that the kernel spells and the rational that it is named for. -/
theorem constants_named : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl⟩

/-- Kernel and reference compute the same three results, at every input that the precondition admits. -/
theorem same_results : Cert.algebraic_KernelIdeal_ReferenceIdeal_pre_counts_and_labels (hKernelIdeal := Cert.KernelIdeal.Gen.facts)
    (hReferenceIdeal := Cert.ReferenceIdeal.Gen.facts) (hPre_counts_and_labels := Cert.Pre_counts_and_labels.Gen.facts) := by
  intro m g m' g' hpre hargs
  refine ⟨fun c => shapeCast Cert.KernelIdeal.S4096 (Cert.KernelIdeal.Gen.outArr m c) Cert.KernelIdeal.Gen.shapeCasts_S64x1x64_S4096,
    fun c => constant (F := Ideal) Cert.KernelIdeal.S_ .f32 0x00000000#32, fun c => constant (F := Ideal) Cert.KernelIdeal.S_ .f32 0x00000000#32,
    (θ_run _ _ _).mono (fun _ h c => ⟨(h.1 c).1.1, (h.1 c).1.2.1, (h.1 c).1.2.2, (h.1 c).2⟩) (Cert.KernelIdeal.Gen.run (F := Ideal) m g),
    (θ_run _ _ _).mono (fun _ h c => ⟨(h c).1.trans ?_, (h c).2⟩) (Cert.ReferenceIdeal.Value.run (F := Ideal) m' g')⟩
  exact Cert.Equation.results_eq m m' c (hpre c) (hargs c)

/-- All the claims. -/
theorem claim : Cert.Claim := ⟨Cert.Kernel.Gen.facts, Cert.KernelIdeal.Gen.facts, Cert.ReferenceIdeal.Gen.facts, Cert.Pre_counts_and_labels.Gen.facts,
  Cert.Kernel.Words.frame_kernel, frame_kernelIdeal, fun m ρ _ => frame_kernelIdeal m ρ trivial, frame_referenceIdeal, fun m ρ _ => frame_referenceIdeal m ρ trivial, constants_named, same_results⟩

end Cert.Proof

end
